-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.bf16_pack.Statement Cert.KernelIdeal.S4x1024x256

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_v154) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S16384x256 : Shape := ⟨2, ![16384, 256]⟩
abbrev S4x1024x256 : Shape := ⟨3, ![4, 1024, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S4x1024x256 : S_.BroadcastsInDim S4x1024x256 (![] : Fin 0 → Fin S4x1024x256.rank)
  reducesTo_S4x1024x256_S_d0_1_2 : S4x1024x256.ReducesTo [0, 1, 2] S_

variable [Facts]

def fn {F : FTy → Type} [FloatOps F] (main_arg0 : FVec F S16384x256 .f32) (main_arg1 : FVec F S4x1024x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S4x1024x256 .f32 := Host.absf main_arg1
  let main_cst_0 : FVec F S_ .f32 := constant S_ .f32 0x7F800000#32
  let main_v5 : FVec F S4x1024x256 .f32 := broadcastInDim S4x1024x256 ![] bcast_S_S4x1024x256 main_cst_0
  let main_v6 : IVec S4x1024x256 1 := cmpf .olt main_v4 main_v5
  let main_c_1 : IVec S_ 1 := constantI S_ 1 1#1
  let main_v7 : IVec S_ 1 := (fun x v => Host.reduce IntOp.andi x v reducesTo_S4x1024x256_S_d0_1_2 h_S_) main_v6 main_c_1
  let main_v8 : IVec S_ 1 := andi main_v3 main_v7
  main_v8
-- ==== Kernel.lean ====
abbrev S16384x256 : Shape := ⟨2, ![16384, 256]⟩
abbrev S4x1024x256 : Shape := ⟨3, ![4, 1024, 256]⟩
abbrev S1x1024x256 : Shape := ⟨3, ![1, 1024, 256]⟩
abbrev S1024x256 : Shape := ⟨2, ![1024, 256]⟩
abbrev S_ : Shape := ⟨0, ![]⟩
abbrev S1024 : Shape := ⟨1, ![1024]⟩
abbrev S1x1024 : Shape := ⟨2, ![1, 1024]⟩
abbrev S4x1024 : Shape := ⟨2, ![4, 1024]⟩
abbrev S4x16384x1024 : Shape := ⟨3, ![4, 16384, 1024]⟩
abbrev S4x16384 : Shape := ⟨2, ![4, 16384]⟩
abbrev S512x256 : Shape := ⟨2, ![512, 256]⟩
abbrev S4x512x1024 : Shape := ⟨3, ![4, 512, 1024]⟩
abbrev S4x512 : Shape := ⟨2, ![4, 512]⟩
abbrev S512x1024 : Shape := ⟨2, ![512, 1024]⟩
abbrev S512x128 : Shape := ⟨2, ![512, 128]⟩
abbrev S512x8 : Shape := ⟨2, ![512, 8]⟩
abbrev S512x4 : Shape := ⟨2, ![512, 4]⟩
abbrev S512x2 : Shape := ⟨2, ![512, 2]⟩
abbrev S512x1 : Shape := ⟨2, ![512, 1]⟩
abbrev S512 : Shape := ⟨1, ![512]⟩
abbrev S1x512x1024 : Shape := ⟨3, ![1, 512, 1024]⟩
abbrev S1x512 : Shape := ⟨2, ![1, 512]⟩

abbrev nBuf : Space → Nat
  | .hbm => 41
  | .vmem => 17
  | .smem => 0
  | _ => 0

abbrev bufTy : (tb : Table) → Fin (tcTables nBuf tb) → BufTy
  | .hbm, ⟨0, _⟩ => ⟨S16384x256, .f32⟩
  | .hbm, ⟨1, _⟩ => ⟨S4x1024x256, .f32⟩
  | .hbm, ⟨2, _⟩ => ⟨S1x1024x256, .f32⟩
  | .hbm, ⟨3, _⟩ => ⟨S1024x256, .f32⟩
  | .hbm, ⟨4, _⟩ => ⟨S1x1024x256, .f32⟩
  | .hbm, ⟨5, _⟩ => ⟨S1024x256, .f32⟩
  | .hbm, ⟨6, _⟩ => ⟨S1024x256, .f32⟩
  | .hbm, ⟨7, _⟩ => ⟨S_, .f32⟩
  | .hbm, ⟨8, _⟩ => ⟨S1024, .f32⟩
  | .hbm, ⟨9, _⟩ => ⟨S1x1024x256, .f32⟩
  | .hbm, ⟨10, _⟩ => ⟨S1024x256, .f32⟩
  | .hbm, ⟨11, _⟩ => ⟨S1x1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024, .f32⟩
  | .hbm, ⟨16, _⟩ => ⟨S1x1024x256, .f32⟩
  | .hbm, ⟨17, _⟩ => ⟨S1024x256, .f32⟩
  | .hbm, ⟨18, _⟩ => ⟨S1x1024x256, .f32⟩
  | .hbm, ⟨19, _⟩ => ⟨S1024x256, .f32⟩
  | .hbm, ⟨20, _⟩ => ⟨S1024x256, .f32⟩
  | .hbm, ⟨21, _⟩ => ⟨S_, .f32⟩
  | .hbm, ⟨22, _⟩ => ⟨S1024, .f32⟩
  | .hbm, ⟨23, _⟩ => ⟨S1x1024x256, .f32⟩
  | .hbm, ⟨24, _⟩ => ⟨S1024x256, .f32⟩
  | .hbm, ⟨25, _⟩ => ⟨S1x1024x256, .f32⟩
  | .hbm, ⟨26, _⟩ => ⟨S1024x256, .f32⟩
  | .hbm, ⟨27, _⟩ => ⟨S1024x256, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S4x1024, .f32⟩
  | .hbm, ⟨35, _⟩ => ⟨S4x1024x256, .f32⟩
  | .hbm, ⟨36, _⟩ => ⟨S4x1024x256, .f32⟩
  | .hbm, ⟨37, _⟩ => ⟨S4x1024x256, .f32⟩
  | .hbm, ⟨38, _⟩ => ⟨S16384x256, .f32⟩
  | .hbm, ⟨39, _⟩ => ⟨S4x16384x1024, .f32⟩
  | .hbm, ⟨40, _⟩ => ⟨S4x16384, .i32⟩
  | .local _ .vmem, ⟨0, _⟩ => ⟨S4x1024x256, .f32⟩
  | .local _ .vmem, ⟨1, _⟩ => ⟨S4x1024x256, .f32⟩
  | .local _ .vmem, ⟨2, _⟩ => ⟨S4x1024x256, .f32⟩
  | .local _ .vmem, ⟨3, _⟩ => ⟨S4x1024x256, .f32⟩
  | .local _ .vmem, ⟨4, _⟩ => ⟨S512x256, .f32⟩
  | .local _ .vmem, ⟨5, _⟩ => ⟨S512x256, .f32⟩
  | .local _ .vmem, ⟨6, _⟩ => ⟨S4x1024x256, .f32⟩
  | .local _ .vmem, ⟨7, _⟩ => ⟨S4x1024, .f32⟩
  | .local _ .vmem, ⟨8, _⟩ => ⟨S4x1024x256, .f32⟩
  | .local _ .vmem, ⟨9, _⟩ => ⟨S4x1024x256, .f32⟩
  | .local _ .vmem, ⟨10, _⟩ => ⟨S4x1024x256, .f32⟩
  | .local _ .vmem, ⟨11, _⟩ => ⟨S512x256, .f32⟩
  | .local _ .vmem, ⟨12, _⟩ => ⟨S512x256, .f32⟩
  | .local _ .vmem, ⟨13, _⟩ => ⟨S4x512x1024, .f32⟩
  | .local _ .vmem, ⟨14, _⟩ => ⟨S4x512x1024, .f32⟩
  | .local _ .vmem, ⟨15, _⟩ => ⟨S4x512, .i32⟩
  | .local _ .vmem, ⟨16, _⟩ => ⟨S4x512, .i32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_cst : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_cst_0 : Ref sig .tc := ⟨.hbm, 14, rfl⟩
abbrev main_call0_v11 : Ref sig .tc := ⟨.hbm, 15, rfl⟩
abbrev main_call0_v12 : Ref sig .tc := ⟨.hbm, 16, rfl⟩
abbrev main_call0_v13 : Ref sig .tc := ⟨.hbm, 17, rfl⟩
abbrev main_call0_v14 : Ref sig .tc := ⟨.hbm, 18, rfl⟩
abbrev main_call0_v15 : Ref sig .tc := ⟨.hbm, 19, rfl⟩
abbrev main_call0_v16 : Ref sig .tc := ⟨.hbm, 20, rfl⟩
abbrev main_call0_cst_1 : Ref sig .tc := ⟨.hbm, 21, rfl⟩
abbrev main_call0_v17 : Ref sig .tc := ⟨.hbm, 22, rfl⟩
abbrev main_call0_v18 : Ref sig .tc := ⟨.hbm, 23, rfl⟩
abbrev main_call0_v19 : Ref sig .tc := ⟨.hbm, 24, rfl⟩
abbrev main_call0_v20 : Ref sig .tc := ⟨.hbm, 25, rfl⟩
abbrev main_call0_v21 : Ref sig .tc := ⟨.hbm, 26, rfl⟩
abbrev main_call0_v22 : Ref sig .tc := ⟨.hbm, 27, rfl⟩
abbrev main_call0_cst_2 : Ref sig .tc := ⟨.hbm, 28, rfl⟩
abbrev main_call0_v23 : Ref sig .tc := ⟨.hbm, 29, rfl⟩
abbrev main_call0_v24 : Ref sig .tc := ⟨.hbm, 30, rfl⟩
abbrev main_call0_v25 : Ref sig .tc := ⟨.hbm, 31, rfl⟩
abbrev main_call0_v26 : Ref sig .tc := ⟨.hbm, 32, rfl⟩
abbrev main_call0_v27 : Ref sig .tc := ⟨.hbm, 33, rfl⟩
abbrev main_call0_v28 : Ref sig .tc := ⟨.hbm, 34, rfl⟩
abbrev main_call0_v29_0 : Ref sig .tc := ⟨.hbm, 35, rfl⟩
abbrev main_call0_v29_1 : Ref sig .tc := ⟨.hbm, 36, rfl⟩
abbrev main_call0_v29_2 : Ref sig .tc := ⟨.hbm, 37, rfl⟩
abbrev main_v0_0 : Ref sig .tc := ⟨.hbm, 38, rfl⟩
abbrev main_v0_1 : Ref sig .tc := ⟨.hbm, 39, rfl⟩
abbrev main_v0_2 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg6_1 : Ref sig .tc := ⟨.vmem, 12, rfl⟩
abbrev cc1_stg7_0 : Ref sig .tc := ⟨.vmem, 13, rfl⟩
abbrev cc1_stg7_1 : Ref sig .tc := ⟨.vmem, 14, rfl⟩
abbrev cc1_stg8_0 : Ref sig .tc := ⟨.vmem, 15, rfl⟩
abbrev cc1_stg8_1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem6_1 : DmaSem sig := 12
abbrev cc1_sem7_0 : DmaSem sig := 13
abbrev cc1_sem7_1 : DmaSem sig := 14
abbrev cc1_sem8_0 : DmaSem sig := 15
abbrev cc1_sem8_1 : DmaSem sig := 16

abbrev nD : Nat := 1
abbrev τ : Topo := Topo.v7x

variable {F : FTy → Type} [BitOps F]

abbrev grid0 : Pipeline.Grid := .none

abbrev stage0_0 : Fin 1 → Memref sig .tc .vmem S4x1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x1024x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x1024x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x1024x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x1024x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4x512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4x512 .i32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== KernelIdeal.lean ====
variable {F : FTy → Type} [FloatOps F]
-- ==== ReferenceIdeal.lean ====
abbrev S16384x256 : Shape := ⟨2, ![16384, 256]⟩
abbrev S4x1024x256 : Shape := ⟨3, ![4, 1024, 256]⟩
abbrev S_ : Shape := ⟨0, ![]⟩
abbrev S1x1024x256 : Shape := ⟨3, ![1, 1024, 256]⟩
abbrev S1024x256 : Shape := ⟨2, ![1024, 256]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S256x1024 : Shape := ⟨2, ![256, 1024]⟩
abbrev S16384x1024 : Shape := ⟨2, ![16384, 1024]⟩
abbrev S1 : Shape := ⟨1, ![1]⟩
abbrev S1x1 : Shape := ⟨2, ![1, 1]⟩
abbrev S1x16384x1024 : Shape := ⟨3, ![1, 16384, 1024]⟩
abbrev S4x16384x1024 : Shape := ⟨3, ![4, 16384, 1024]⟩
abbrev S1x16384 : Shape := ⟨2, ![1, 16384]⟩
abbrev S4x16384 : Shape := ⟨2, ![4, 16384]⟩

abbrev nBuf : Space → Nat
  | .hbm => 302
  | .vmem => 0
  | .smem => 0
  | _ => 0

abbrev hbmTy0_0 (i : Nat) : BufTy := match i % 128 with
  | 0 => ⟨S16384x256, .f32⟩
  | 1 => ⟨S4x1024x256, .f32⟩
  | 2 => ⟨S_, .f32⟩
  | 3 => ⟨S16384x256, .f32⟩
  | 4 => ⟨S1x1024x256, .f32⟩
  | 5 => ⟨S1024x256, .f32⟩
  | 6 => ⟨S16384x256, .f32⟩
  | 7 => ⟨S_, .f32⟩
  | 8 => ⟨S16384, .f32⟩
  | 9 => ⟨S16384x1, .f32⟩
  | 10 => ⟨S1024x256, .f32⟩
  | 11 => ⟨S_, .f32⟩
  | 12 => ⟨S1024, .f32⟩
  | 13 => ⟨S1x1024, .f32⟩
  | 14 => ⟨S256x1024, .f32⟩
  | 15 => ⟨S16384x1024, .f32⟩
  | 16 => ⟨S_, .f32⟩
  | 17 => ⟨S16384x1024, .f32⟩
  | 18 => ⟨S16384x1024, .f32⟩
  | 19 => ⟨S16384x1024, .f32⟩
  | 20 => ⟨S16384x1024, .f32⟩
  | 21 => ⟨S16384x1024, .f32⟩
  | 22 => ⟨S16384x1024, .f32⟩
  | 23 => ⟨S_, .f32⟩
  | 24 => ⟨S_, .f32⟩
  | 25 => ⟨S16384x1024, .f32⟩
  | 26 => ⟨S16384x1024, .f32⟩
  | 27 => ⟨S16384x1024, .f32⟩
  | 28 => ⟨S16384x1024, .f32⟩
  | 29 => ⟨S_, .f32⟩
  | 30 => ⟨S16384x1024, .f32⟩
  | 31 => ⟨S16384x1024, .f32⟩
  | 32 => ⟨S_, .f32⟩
  | 33 => ⟨S16384, .f32⟩
  | 34 => ⟨S_, .f32⟩
  | 35 => ⟨S16384, .f32⟩
  | 36 => ⟨S16384, .f32⟩
  | 37 => ⟨S16384x1, .f32⟩
  | 38 => ⟨S16384x1024, .f32⟩
  | 39 => ⟨S16384x1024, .f32⟩
  | 40 => ⟨S16384x1024, .f32⟩
  | 41 => ⟨S_, .f32⟩
  | 42 => ⟨S16384, .f32⟩
  | 43 => ⟨S16384x1, .f32⟩
  | 44 => ⟨S16384x1024, .f32⟩
  | 45 => ⟨S16384x1024, .f32⟩
  | 46 => ⟨S16384x1024, .i32⟩
  | 47 => ⟨S_, .f32⟩
  | 48 => ⟨S_, .i32⟩
  | 49 => ⟨S16384, .f32⟩
  | 50 => ⟨S16384, .i32⟩
  | 51 => ⟨S_, .i32⟩
  | 52 => ⟨S16384, .i32⟩
  | 53 => ⟨S16384, .i1⟩
  | 54 => ⟨S_, .i32⟩
  | 55 => ⟨S16384, .i32⟩
  | 56 => ⟨S16384, .i32⟩
  | 57 => ⟨S16384, .i32⟩
  | 58 => ⟨S16384x1, .i32⟩
  | 59 => ⟨S1, .i32⟩
  | 60 => ⟨S_, .i32⟩
  | 61 => ⟨S16384x1, .i32⟩
  | 62 => ⟨S16384x1, .i1⟩
  | 63 => ⟨S1x1, .i32⟩
  | 64 => ⟨S16384x1, .i32⟩
  | 65 => ⟨S16384x1, .i1⟩
  | 66 => ⟨S16384x1, .i1⟩
  | 67 => ⟨S_, .i1⟩
  | 68 => ⟨S16384, .i1⟩
  | 69 => ⟨S16384x256, .f32⟩
  | 70 => ⟨S16384x256, .i1⟩
  | 71 => ⟨S_, .f32⟩
  | 72 => ⟨S16384x256, .f32⟩
  | 73 => ⟨S16384x256, .f32⟩
  | 74 => ⟨S16384x256, .f32⟩
  | 75 => ⟨S16384x256, .f32⟩
  | 76 => ⟨S1x1024x256, .f32⟩
  | 77 => ⟨S1024x256, .f32⟩
  | 78 => ⟨S16384x256, .f32⟩
  | 79 => ⟨S_, .f32⟩
  | 80 => ⟨S16384, .f32⟩
  | 81 => ⟨S16384x1, .f32⟩
  | 82 => ⟨S1024x256, .f32⟩
  | 83 => ⟨S_, .f32⟩
  | 84 => ⟨S1024, .f32⟩
  | 85 => ⟨S1x1024, .f32⟩
  | 86 => ⟨S256x1024, .f32⟩
  | 87 => ⟨S16384x1024, .f32⟩
  | 88 => ⟨S_, .f32⟩
  | 89 => ⟨S16384x1024, .f32⟩
  | 90 => ⟨S16384x1024, .f32⟩
  | 91 => ⟨S16384x1024, .f32⟩
  | 92 => ⟨S16384x1024, .f32⟩
  | 93 => ⟨S16384x1024, .f32⟩
  | 94 => ⟨S16384x1024, .f32⟩
  | 95 => ⟨S_, .f32⟩
  | 96 => ⟨S_, .f32⟩
  | 97 => ⟨S16384x1024, .f32⟩
  | 98 => ⟨S16384x1024, .f32⟩
  | 99 => ⟨S16384x1024, .f32⟩
  | 100 => ⟨S16384x1024, .f32⟩
  | 101 => ⟨S_, .f32⟩
  | 102 => ⟨S16384x1024, .f32⟩
  | 103 => ⟨S16384x1024, .f32⟩
  | 104 => ⟨S_, .f32⟩
  | 105 => ⟨S16384, .f32⟩
  | 106 => ⟨S_, .f32⟩
  | 107 => ⟨S16384, .f32⟩
  | 108 => ⟨S16384, .f32⟩
  | 109 => ⟨S16384x1, .f32⟩
  | 110 => ⟨S16384x1024, .f32⟩
  | 111 => ⟨S16384x1024, .f32⟩
  | 112 => ⟨S16384x1024, .f32⟩
  | 113 => ⟨S_, .f32⟩
  | 114 => ⟨S16384, .f32⟩
  | 115 => ⟨S16384x1, .f32⟩
  | 116 => ⟨S16384x1024, .f32⟩
  | 117 => ⟨S16384x1024, .f32⟩
  | 118 => ⟨S16384x1024, .i32⟩
  | 119 => ⟨S_, .f32⟩
  | 120 => ⟨S_, .i32⟩
  | 121 => ⟨S16384, .f32⟩
  | 122 => ⟨S16384, .i32⟩
  | 123 => ⟨S_, .i32⟩
  | 124 => ⟨S16384, .i32⟩
  | 125 => ⟨S16384, .i1⟩
  | 126 => ⟨S_, .i32⟩
  | 127 => ⟨S16384, .i32⟩
  | _ => ⟨S16384x256, .f32⟩

abbrev hbmTy0_1 (i : Nat) : BufTy := match i % 128 with
  | 0 => ⟨S16384, .i32⟩
  | 1 => ⟨S16384, .i32⟩
  | 2 => ⟨S16384x1, .i32⟩
  | 3 => ⟨S1, .i32⟩
  | 4 => ⟨S_, .i32⟩
  | 5 => ⟨S16384x1, .i32⟩
  | 6 => ⟨S16384x1, .i1⟩
  | 7 => ⟨S1x1, .i32⟩
  | 8 => ⟨S16384x1, .i32⟩
  | 9 => ⟨S16384x1, .i1⟩
  | 10 => ⟨S16384x1, .i1⟩
  | 11 => ⟨S_, .i1⟩
  | 12 => ⟨S16384, .i1⟩
  | 13 => ⟨S16384x256, .f32⟩
  | 14 => ⟨S16384x256, .i1⟩
  | 15 => ⟨S_, .f32⟩
  | 16 => ⟨S16384x256, .f32⟩
  | 17 => ⟨S16384x256, .f32⟩
  | 18 => ⟨S16384x256, .f32⟩
  | 19 => ⟨S16384x256, .f32⟩
  | 20 => ⟨S1x1024x256, .f32⟩
  | 21 => ⟨S1024x256, .f32⟩
  | 22 => ⟨S16384x256, .f32⟩
  | 23 => ⟨S_, .f32⟩
  | 24 => ⟨S16384, .f32⟩
  | 25 => ⟨S16384x1, .f32⟩
  | 26 => ⟨S1024x256, .f32⟩
  | 27 => ⟨S_, .f32⟩
  | 28 => ⟨S1024, .f32⟩
  | 29 => ⟨S1x1024, .f32⟩
  | 30 => ⟨S256x1024, .f32⟩
  | 31 => ⟨S16384x1024, .f32⟩
  | 32 => ⟨S_, .f32⟩
  | 33 => ⟨S16384x1024, .f32⟩
  | 34 => ⟨S16384x1024, .f32⟩
  | 35 => ⟨S16384x1024, .f32⟩
  | 36 => ⟨S16384x1024, .f32⟩
  | 37 => ⟨S16384x1024, .f32⟩
  | 38 => ⟨S16384x1024, .f32⟩
  | 39 => ⟨S_, .f32⟩
  | 40 => ⟨S_, .f32⟩
  | 41 => ⟨S16384x1024, .f32⟩
  | 42 => ⟨S16384x1024, .f32⟩
  | 43 => ⟨S16384x1024, .f32⟩
  | 44 => ⟨S16384x1024, .f32⟩
  | 45 => ⟨S_, .f32⟩
  | 46 => ⟨S16384x1024, .f32⟩
  | 47 => ⟨S16384x1024, .f32⟩
  | 48 => ⟨S_, .f32⟩
  | 49 => ⟨S16384, .f32⟩
  | 50 => ⟨S_, .f32⟩
  | 51 => ⟨S16384, .f32⟩
  | 52 => ⟨S16384, .f32⟩
  | 53 => ⟨S16384x1, .f32⟩
  | 54 => ⟨S16384x1024, .f32⟩
  | 55 => ⟨S16384x1024, .f32⟩
  | 56 => ⟨S16384x1024, .f32⟩
  | 57 => ⟨S_, .f32⟩
  | 58 => ⟨S16384, .f32⟩
  | 59 => ⟨S16384x1, .f32⟩
  | 60 => ⟨S16384x1024, .f32⟩
  | 61 => ⟨S16384x1024, .f32⟩
  | 62 => ⟨S16384x1024, .i32⟩
  | 63 => ⟨S_, .f32⟩
  | 64 => ⟨S_, .i32⟩
  | 65 => ⟨S16384, .f32⟩
  | 66 => ⟨S16384, .i32⟩
  | 67 => ⟨S_, .i32⟩
  | 68 => ⟨S16384, .i32⟩
  | 69 => ⟨S16384, .i1⟩
  | 70 => ⟨S_, .i32⟩
  | 71 => ⟨S16384, .i32⟩
  | 72 => ⟨S16384, .i32⟩
  | 73 => ⟨S16384, .i32⟩
  | 74 => ⟨S16384x1, .i32⟩
  | 75 => ⟨S1, .i32⟩
  | 76 => ⟨S_, .i32⟩
  | 77 => ⟨S16384x1, .i32⟩
  | 78 => ⟨S16384x1, .i1⟩
  | 79 => ⟨S1x1, .i32⟩
  | 80 => ⟨S16384x1, .i32⟩
  | 81 => ⟨S16384x1, .i1⟩
  | 82 => ⟨S16384x1, .i1⟩
  | 83 => ⟨S_, .i1⟩
  | 84 => ⟨S16384, .i1⟩
  | 85 => ⟨S16384x256, .f32⟩
  | 86 => ⟨S16384x256, .i1⟩
  | 87 => ⟨S_, .f32⟩
  | 88 => ⟨S16384x256, .f32⟩
  | 89 => ⟨S16384x256, .f32⟩
  | 90 => ⟨S16384x256, .f32⟩
  | 91 => ⟨S16384x256, .f32⟩
  | 92 => ⟨S1x1024x256, .f32⟩
  | 93 => ⟨S1024x256, .f32⟩
  | 94 => ⟨S16384x256, .f32⟩
  | 95 => ⟨S_, .f32⟩
  | 96 => ⟨S16384, .f32⟩
  | 97 => ⟨S16384x1, .f32⟩
  | 98 => ⟨S1024x256, .f32⟩
  | 99 => ⟨S_, .f32⟩
  | 100 => ⟨S1024, .f32⟩
  | 101 => ⟨S1x1024, .f32⟩
  | 102 => ⟨S256x1024, .f32⟩
  | 103 => ⟨S16384x1024, .f32⟩
  | 104 => ⟨S_, .f32⟩
  | 105 => ⟨S16384x1024, .f32⟩
  | 106 => ⟨S16384x1024, .f32⟩
  | 107 => ⟨S16384x1024, .f32⟩
  | 108 => ⟨S16384x1024, .f32⟩
  | 109 => ⟨S16384x1024, .f32⟩
  | 110 => ⟨S16384x1024, .f32⟩
  | 111 => ⟨S_, .f32⟩
  | 112 => ⟨S_, .f32⟩
  | 113 => ⟨S16384x1024, .f32⟩
  | 114 => ⟨S16384x1024, .f32⟩
  | 115 => ⟨S16384x1024, .f32⟩
  | 116 => ⟨S16384x1024, .f32⟩
  | 117 => ⟨S_, .f32⟩
  | 118 => ⟨S16384x1024, .f32⟩
  | 119 => ⟨S16384x1024, .f32⟩
  | 120 => ⟨S_, .f32⟩
  | 121 => ⟨S16384, .f32⟩
  | 122 => ⟨S_, .f32⟩
  | 123 => ⟨S16384, .f32⟩
  | 124 => ⟨S16384, .f32⟩
  | 125 => ⟨S16384x1, .f32⟩
  | 126 => ⟨S16384x1024, .f32⟩
  | 127 => ⟨S16384x1024, .f32⟩
  | _ => ⟨S16384x256, .f32⟩

abbrev hbmTy0_2 (i : Nat) : BufTy := match i % 128 with
  | 0 => ⟨S16384x1024, .f32⟩
  | 1 => ⟨S_, .f32⟩
  | 2 => ⟨S16384, .f32⟩
  | 3 => ⟨S16384x1, .f32⟩
  | 4 => ⟨S16384x1024, .f32⟩
  | 5 => ⟨S16384x1024, .f32⟩
  | 6 => ⟨S16384x1024, .i32⟩
  | 7 => ⟨S_, .f32⟩
  | 8 => ⟨S_, .i32⟩
  | 9 => ⟨S16384, .f32⟩
  | 10 => ⟨S16384, .i32⟩
  | 11 => ⟨S_, .i32⟩
  | 12 => ⟨S16384, .i32⟩
  | 13 => ⟨S16384, .i1⟩
  | 14 => ⟨S_, .i32⟩
  | 15 => ⟨S16384, .i32⟩
  | 16 => ⟨S16384, .i32⟩
  | 17 => ⟨S16384, .i32⟩
  | 18 => ⟨S16384x1, .i32⟩
  | 19 => ⟨S1, .i32⟩
  | 20 => ⟨S_, .i32⟩
  | 21 => ⟨S16384x1, .i32⟩
  | 22 => ⟨S16384x1, .i1⟩
  | 23 => ⟨S1x1, .i32⟩
  | 24 => ⟨S16384x1, .i32⟩
  | 25 => ⟨S16384x1, .i1⟩
  | 26 => ⟨S16384x1, .i1⟩
  | 27 => ⟨S_, .i1⟩
  | 28 => ⟨S16384, .i1⟩
  | 29 => ⟨S16384x256, .f32⟩
  | 30 => ⟨S16384x256, .i1⟩
  | 31 => ⟨S_, .f32⟩
  | 32 => ⟨S16384x256, .f32⟩
  | 33 => ⟨S16384x256, .f32⟩
  | 34 => ⟨S16384x256, .f32⟩
  | 35 => ⟨S16384x256, .f32⟩
  | 36 => ⟨S1x16384x1024, .f32⟩
  | 37 => ⟨S1x16384x1024, .f32⟩
  | 38 => ⟨S1x16384x1024, .f32⟩
  | 39 => ⟨S1x16384x1024, .f32⟩
  | 40 => ⟨S4x16384x1024, .f32⟩
  | 41 => ⟨S1x16384, .i32⟩
  | 42 => ⟨S1x16384, .i32⟩
  | 43 => ⟨S1x16384, .i32⟩
  | 44 => ⟨S1x16384, .i32⟩
  | 45 => ⟨S4x16384, .i32⟩
  | _ => ⟨S16384x256, .f32⟩

abbrev hbmTy (i : Nat) : BufTy := match i / 128 with
  | 0 => hbmTy0_0 i
  | 1 => hbmTy0_1 i
  | 2 => hbmTy0_2 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call1_v0 : Ref sig .tc := ⟨.hbm, 46, rfl⟩
abbrev main_call1_cst : Ref sig .tc := ⟨.hbm, 47, rfl⟩
abbrev main_call1_c : Ref sig .tc := ⟨.hbm, 48, rfl⟩
abbrev main_call1_v1_0 : Ref sig .tc := ⟨.hbm, 49, rfl⟩
abbrev main_v33 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_call2_cst : Ref sig .tc := ⟨.hbm, 71, rfl⟩
abbrev main_call2_v15 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_8 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_9 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst_10 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_cst_11 : Ref sig .tc := ⟨.hbm, 95, rfl⟩
abbrev main_call3_v0 : Ref sig .tc := ⟨.hbm, 96, rfl⟩
abbrev main_call3_v1 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_12 : Ref sig .tc := ⟨.hbm, 101, rfl⟩
abbrev main_v56 : Ref sig .tc := ⟨.hbm, 102, rfl⟩
abbrev main_v57 : Ref sig .tc := ⟨.hbm, 103, rfl⟩
abbrev main_cst_13 : Ref sig .tc := ⟨.hbm, 104, rfl⟩
abbrev main_v58 : Ref sig .tc := ⟨.hbm, 105, rfl⟩
abbrev main_cst_14 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_cst_15 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_call4_v0 : Ref sig .tc := ⟨.hbm, 118, rfl⟩
abbrev main_call4_cst : Ref sig .tc := ⟨.hbm, 119, rfl⟩
abbrev main_call4_c : Ref sig .tc := ⟨.hbm, 120, rfl⟩
abbrev main_call4_v1_0 : Ref sig .tc := ⟨.hbm, 121, rfl⟩
abbrev main_v69 : Ref sig .tc := ⟨.hbm, 122, rfl⟩
abbrev main_call5_c : Ref sig .tc := ⟨.hbm, 123, rfl⟩
abbrev main_call5_v0 : Ref sig .tc := ⟨.hbm, 124, rfl⟩
abbrev main_call5_v1 : Ref sig .tc := ⟨.hbm, 125, rfl⟩
abbrev main_call5_c_0 : Ref sig .tc := ⟨.hbm, 126, rfl⟩
abbrev main_call5_v2 : Ref sig .tc := ⟨.hbm, 127, rfl⟩
abbrev main_call5_v3 : Ref sig .tc := ⟨.hbm, 128, rfl⟩
abbrev main_call5_v4 : Ref sig .tc := ⟨.hbm, 129, rfl⟩
abbrev main_call5_v5 : Ref sig .tc := ⟨.hbm, 130, rfl⟩
abbrev main_call5_c_1 : Ref sig .tc := ⟨.hbm, 131, rfl⟩
abbrev main_call5_c_2 : Ref sig .tc := ⟨.hbm, 132, rfl⟩
abbrev main_call5_v6 : Ref sig .tc := ⟨.hbm, 133, rfl⟩
abbrev main_call5_v7 : Ref sig .tc := ⟨.hbm, 134, rfl⟩
abbrev main_call5_v8 : Ref sig .tc := ⟨.hbm, 135, rfl⟩
abbrev main_call5_v9 : Ref sig .tc := ⟨.hbm, 136, rfl⟩
abbrev main_call5_v10 : Ref sig .tc := ⟨.hbm, 137, rfl⟩
abbrev main_call5_v11 : Ref sig .tc := ⟨.hbm, 138, rfl⟩
abbrev main_call5_c_3 : Ref sig .tc := ⟨.hbm, 139, rfl⟩
abbrev main_call5_v12 : Ref sig .tc := ⟨.hbm, 140, rfl⟩
abbrev main_call5_v13 : Ref sig .tc := ⟨.hbm, 141, rfl⟩
abbrev main_call5_v14 : Ref sig .tc := ⟨.hbm, 142, rfl⟩
abbrev main_call5_cst : Ref sig .tc := ⟨.hbm, 143, rfl⟩
abbrev main_call5_v15 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_cst_16 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_cst_17 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_cst_18 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_cst_19 : Ref sig .tc := ⟨.hbm, 167, rfl⟩
abbrev main_call6_v0 : Ref sig .tc := ⟨.hbm, 168, rfl⟩
abbrev main_call6_v1 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_cst_20 : Ref sig .tc := ⟨.hbm, 173, rfl⟩
abbrev main_v92 : Ref sig .tc := ⟨.hbm, 174, rfl⟩
abbrev main_v93 : Ref sig .tc := ⟨.hbm, 175, rfl⟩
abbrev main_cst_21 : Ref sig .tc := ⟨.hbm, 176, rfl⟩
abbrev main_v94 : Ref sig .tc := ⟨.hbm, 177, rfl⟩
abbrev main_cst_22 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_cst_23 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_call7_v0 : Ref sig .tc := ⟨.hbm, 190, rfl⟩
abbrev main_call7_cst : Ref sig .tc := ⟨.hbm, 191, rfl⟩
abbrev main_call7_c : Ref sig .tc := ⟨.hbm, 192, rfl⟩
abbrev main_call7_v1_0 : Ref sig .tc := ⟨.hbm, 193, rfl⟩
abbrev main_v105 : Ref sig .tc := ⟨.hbm, 194, rfl⟩
abbrev main_call8_c : Ref sig .tc := ⟨.hbm, 195, rfl⟩
abbrev main_call8_v0 : Ref sig .tc := ⟨.hbm, 196, rfl⟩
abbrev main_call8_v1 : Ref sig .tc := ⟨.hbm, 197, rfl⟩
abbrev main_call8_c_0 : Ref sig .tc := ⟨.hbm, 198, rfl⟩
abbrev main_call8_v2 : Ref sig .tc := ⟨.hbm, 199, rfl⟩
abbrev main_call8_v3 : Ref sig .tc := ⟨.hbm, 200, rfl⟩
abbrev main_call8_v4 : Ref sig .tc := ⟨.hbm, 201, rfl⟩
abbrev main_call8_v5 : Ref sig .tc := ⟨.hbm, 202, rfl⟩
abbrev main_call8_c_1 : Ref sig .tc := ⟨.hbm, 203, rfl⟩
abbrev main_call8_c_2 : Ref sig .tc := ⟨.hbm, 204, rfl⟩
abbrev main_call8_v6 : Ref sig .tc := ⟨.hbm, 205, rfl⟩
abbrev main_call8_v7 : Ref sig .tc := ⟨.hbm, 206, rfl⟩
abbrev main_call8_v8 : Ref sig .tc := ⟨.hbm, 207, rfl⟩
abbrev main_call8_v9 : Ref sig .tc := ⟨.hbm, 208, rfl⟩
abbrev main_call8_v10 : Ref sig .tc := ⟨.hbm, 209, rfl⟩
abbrev main_call8_v11 : Ref sig .tc := ⟨.hbm, 210, rfl⟩
abbrev main_call8_c_3 : Ref sig .tc := ⟨.hbm, 211, rfl⟩
abbrev main_call8_v12 : Ref sig .tc := ⟨.hbm, 212, rfl⟩
abbrev main_call8_v13 : Ref sig .tc := ⟨.hbm, 213, rfl⟩
abbrev main_call8_v14 : Ref sig .tc := ⟨.hbm, 214, rfl⟩
abbrev main_call8_cst : Ref sig .tc := ⟨.hbm, 215, rfl⟩
abbrev main_call8_v15 : Ref sig .tc := ⟨.hbm, 216, rfl⟩
abbrev main_v106 : Ref sig .tc := ⟨.hbm, 217, rfl⟩
abbrev main_v107 : Ref sig .tc := ⟨.hbm, 218, rfl⟩
abbrev main_v108 : Ref sig .tc := ⟨.hbm, 219, rfl⟩
abbrev main_v109 : Ref sig .tc := ⟨.hbm, 220, rfl⟩
abbrev main_v110 : Ref sig .tc := ⟨.hbm, 221, rfl⟩
abbrev main_v111 : Ref sig .tc := ⟨.hbm, 222, rfl⟩
abbrev main_cst_24 : Ref sig .tc := ⟨.hbm, 223, rfl⟩
abbrev main_v112 : Ref sig .tc := ⟨.hbm, 224, rfl⟩
abbrev main_v113 : Ref sig .tc := ⟨.hbm, 225, rfl⟩
abbrev main_v114 : Ref sig .tc := ⟨.hbm, 226, rfl⟩
abbrev main_cst_25 : Ref sig .tc := ⟨.hbm, 227, rfl⟩
abbrev main_v115 : Ref sig .tc := ⟨.hbm, 228, rfl⟩
abbrev main_v116 : Ref sig .tc := ⟨.hbm, 229, rfl⟩
abbrev main_v117 : Ref sig .tc := ⟨.hbm, 230, rfl⟩
abbrev main_v118 : Ref sig .tc := ⟨.hbm, 231, rfl⟩
abbrev main_cst_26 : Ref sig .tc := ⟨.hbm, 232, rfl⟩
abbrev main_v119 : Ref sig .tc := ⟨.hbm, 233, rfl⟩
abbrev main_v120 : Ref sig .tc := ⟨.hbm, 234, rfl⟩
abbrev main_v121 : Ref sig .tc := ⟨.hbm, 235, rfl⟩
abbrev main_v122 : Ref sig .tc := ⟨.hbm, 236, rfl⟩
abbrev main_v123 : Ref sig .tc := ⟨.hbm, 237, rfl⟩
abbrev main_v124 : Ref sig .tc := ⟨.hbm, 238, rfl⟩
abbrev main_cst_27 : Ref sig .tc := ⟨.hbm, 239, rfl⟩
abbrev main_call9_v0 : Ref sig .tc := ⟨.hbm, 240, rfl⟩
abbrev main_call9_v1 : Ref sig .tc := ⟨.hbm, 241, rfl⟩
abbrev main_v125 : Ref sig .tc := ⟨.hbm, 242, rfl⟩
abbrev main_v126 : Ref sig .tc := ⟨.hbm, 243, rfl⟩
abbrev main_v127 : Ref sig .tc := ⟨.hbm, 244, rfl⟩
abbrev main_cst_28 : Ref sig .tc := ⟨.hbm, 245, rfl⟩
abbrev main_v128 : Ref sig .tc := ⟨.hbm, 246, rfl⟩
abbrev main_v129 : Ref sig .tc := ⟨.hbm, 247, rfl⟩
abbrev main_cst_29 : Ref sig .tc := ⟨.hbm, 248, rfl⟩
abbrev main_v130 : Ref sig .tc := ⟨.hbm, 249, rfl⟩
abbrev main_cst_30 : Ref sig .tc := ⟨.hbm, 250, rfl⟩
abbrev main_v131 : Ref sig .tc := ⟨.hbm, 251, rfl⟩
abbrev main_v132 : Ref sig .tc := ⟨.hbm, 252, rfl⟩
abbrev main_v133 : Ref sig .tc := ⟨.hbm, 253, rfl⟩
abbrev main_v134 : Ref sig .tc := ⟨.hbm, 254, rfl⟩
abbrev main_v135 : Ref sig .tc := ⟨.hbm, 255, rfl⟩
abbrev main_v136 : Ref sig .tc := ⟨.hbm, 256, rfl⟩
abbrev main_cst_31 : Ref sig .tc := ⟨.hbm, 257, rfl⟩
abbrev main_v137 : Ref sig .tc := ⟨.hbm, 258, rfl⟩
abbrev main_v138 : Ref sig .tc := ⟨.hbm, 259, rfl⟩
abbrev main_v139 : Ref sig .tc := ⟨.hbm, 260, rfl⟩
abbrev main_v140 : Ref sig .tc := ⟨.hbm, 261, rfl⟩
abbrev main_call10_v0 : Ref sig .tc := ⟨.hbm, 262, rfl⟩
abbrev main_call10_cst : Ref sig .tc := ⟨.hbm, 263, rfl⟩
abbrev main_call10_c : Ref sig .tc := ⟨.hbm, 264, rfl⟩
abbrev main_call10_v1_0 : Ref sig .tc := ⟨.hbm, 265, rfl⟩
abbrev main_v141 : Ref sig .tc := ⟨.hbm, 266, rfl⟩
abbrev main_call11_c : Ref sig .tc := ⟨.hbm, 267, rfl⟩
abbrev main_call11_v0 : Ref sig .tc := ⟨.hbm, 268, rfl⟩
abbrev main_call11_v1 : Ref sig .tc := ⟨.hbm, 269, rfl⟩
abbrev main_call11_c_0 : Ref sig .tc := ⟨.hbm, 270, rfl⟩
abbrev main_call11_v2 : Ref sig .tc := ⟨.hbm, 271, rfl⟩
abbrev main_call11_v3 : Ref sig .tc := ⟨.hbm, 272, rfl⟩
abbrev main_call11_v4 : Ref sig .tc := ⟨.hbm, 273, rfl⟩
abbrev main_call11_v5 : Ref sig .tc := ⟨.hbm, 274, rfl⟩
abbrev main_call11_c_1 : Ref sig .tc := ⟨.hbm, 275, rfl⟩
abbrev main_call11_c_2 : Ref sig .tc := ⟨.hbm, 276, rfl⟩
abbrev main_call11_v6 : Ref sig .tc := ⟨.hbm, 277, rfl⟩
abbrev main_call11_v7 : Ref sig .tc := ⟨.hbm, 278, rfl⟩
abbrev main_call11_v8 : Ref sig .tc := ⟨.hbm, 279, rfl⟩
abbrev main_call11_v9 : Ref sig .tc := ⟨.hbm, 280, rfl⟩
abbrev main_call11_v10 : Ref sig .tc := ⟨.hbm, 281, rfl⟩
abbrev main_call11_v11 : Ref sig .tc := ⟨.hbm, 282, rfl⟩
abbrev main_call11_c_3 : Ref sig .tc := ⟨.hbm, 283, rfl⟩
abbrev main_call11_v12 : Ref sig .tc := ⟨.hbm, 284, rfl⟩
abbrev main_call11_v13 : Ref sig .tc := ⟨.hbm, 285, rfl⟩
abbrev main_call11_v14 : Ref sig .tc := ⟨.hbm, 286, rfl⟩
abbrev main_call11_cst : Ref sig .tc := ⟨.hbm, 287, rfl⟩
abbrev main_call11_v15 : Ref sig .tc := ⟨.hbm, 288, rfl⟩
abbrev main_v142 : Ref sig .tc := ⟨.hbm, 289, rfl⟩
abbrev main_v143 : Ref sig .tc := ⟨.hbm, 290, rfl⟩
abbrev main_v144 : Ref sig .tc := ⟨.hbm, 291, rfl⟩
abbrev main_v145 : Ref sig .tc := ⟨.hbm, 292, rfl⟩
abbrev main_v146 : Ref sig .tc := ⟨.hbm, 293, rfl⟩
abbrev main_v147 : Ref sig .tc := ⟨.hbm, 294, rfl⟩
abbrev main_v148 : Ref sig .tc := ⟨.hbm, 295, rfl⟩
abbrev main_v149 : Ref sig .tc := ⟨.hbm, 296, rfl⟩
abbrev main_v150 : Ref sig .tc := ⟨.hbm, 297, rfl⟩
abbrev main_v151 : Ref sig .tc := ⟨.hbm, 298, rfl⟩
abbrev main_v152 : Ref sig .tc := ⟨.hbm, 299, rfl⟩
abbrev main_v153 : Ref sig .tc := ⟨.hbm, 300, rfl⟩
abbrev main_v154 : Ref sig .tc := ⟨.hbm, 301, rfl⟩

abbrev nD : Nat := 1
abbrev τ : Topo := Topo.v7x

variable {F : FTy → Type} [FloatOps F]
-- ==== Proof.RefOps.lean ====
/- The reference's operations as lists: one per function it calls, one per layer, and the closing
   concatenations.  The reference's program is their concatenation, in order. -/
module

public import proofs.«01_k».proof.Defs
public import proofs.«01_k».proof.Proof.Gen.ReferenceIdeal
public import Idealize.ShloMosaic.Lib.StableHlo.RunHlo

@[expose] public section

noncomputable section

namespace Cert.ReferenceIdeal.Hand

open Idealize.ShloMosaic Idealize.SL.Sem Cert.ReferenceIdeal
open Cert.ReferenceIdeal.Facts₀ Cert.ReferenceIdeal.Facts

variable {F : FTy → Type} [FloatOps F]

/-- An operation of the reference's host program. -/
abbrev Op (F : FTy → Type) := HloOp τ sig (Elt F)

/-- A lower clip by a scalar. -/
def clipOps (arg0 : StableHlo.TRef sig ⟨S16384x1024, .f32⟩) (arg1 : StableHlo.TRef sig ⟨S_, .f32⟩) (φ : fn_clip.Bufs) : List (Op F) :=
  [StableHlo.TRef.unary arg1 φ.v0 id,
    StableHlo.TRef.unary φ.v0 φ.v1 (broadcastInDim S16384x1024 ![] bcast_S_S16384x1024),
    StableHlo.TRef.binary φ.v1 arg0 φ.v2 maximumf]

/-- The index of each row's least entry. -/
def argminOps (arg0 : StableHlo.TRef sig ⟨S16384x1024, .f32⟩) (φ : fn_argmin.Bufs) : List (Op F) :=
  [StableHlo.TRef.nullary φ.v0 (iotaInDim S16384x1024 32 1),
    StableHlo.TRef.nullary φ.cst (constant S_ .f32 0x7F800000#32),
    StableHlo.TRef.nullary φ.c (constantI S_ 32 0#32),
    StableHlo.TRef.quaternary arg0 φ.v0 φ.cst φ.c φ.v1_0 (fun x y u v j => (Host.argReduce reducer_argmin_f32_i32 x y u v reducesTo_S16384x1024_S16384_d1 h_S_ j).1),
    StableHlo.TRef.quaternary arg0 φ.v0 φ.cst φ.c φ.v1_1 (fun x y u v j => (Host.argReduce reducer_argmin_f32_i32 x y u v reducesTo_S16384x1024_S16384_d1 h_S_ j).2)]

/-- A choice per index. -/
def whereOps (arg0 : StableHlo.TRef sig ⟨S16384, .i1⟩) (arg1 : StableHlo.TRef sig ⟨S16384, .i32⟩) (arg2 : StableHlo.TRef sig ⟨S16384, .i32⟩) (φ : fn_where.Bufs) : List (Op F) :=
  [StableHlo.TRef.ternary arg0 arg1 arg2 φ.v0 select]

/-- The rows of a table that an index array names. -/
def takeOps (arg0 : StableHlo.TRef sig ⟨S1024x256, .f32⟩) (arg1 : StableHlo.TRef sig ⟨S16384, .i32⟩) (φ : fn_take.Bufs) : List (Op F) :=
  [StableHlo.TRef.nullary φ.c (constantI S_ 32 0#32),
    StableHlo.TRef.unary φ.c φ.v0 (broadcastInDim S16384 ![] bcast_S_S16384),
    StableHlo.TRef.binary arg1 φ.v0 φ.v1 (cmpi .slt),
    StableHlo.TRef.nullary φ.c_0 (constantI S_ 32 1024#32),
    StableHlo.TRef.unary φ.c_0 φ.v2 (broadcastInDim S16384 ![] bcast_S_S16384),
    StableHlo.TRef.binary arg1 φ.v2 φ.v3 addi]
  ++ whereOps φ.v1 φ.v3 arg1 φ.call0
  ++ [StableHlo.TRef.unary φ.call0.v0 φ.v5 (broadcastInDim S16384x1 ![0] bcast_S16384_S16384x1_0),
    StableHlo.TRef.nullary φ.c_1 (constantI S1 32 1023#32),
    StableHlo.TRef.nullary φ.c_2 (constantI S_ 32 0#32),
    StableHlo.TRef.unary φ.c_2 φ.v6 (broadcastInDim S16384x1 ![] bcast_S_S16384x1),
    StableHlo.TRef.binary φ.v5 φ.v6 φ.v7 (cmpi .sge),
    StableHlo.TRef.unary φ.c_1 φ.v8 (broadcastInDim S1x1 ![1] bcast_S1_S1x1_1),
    StableHlo.TRef.unary φ.v8 φ.v9 (broadcastInDim S16384x1 ![0, 1] bcast_S1x1_S16384x1_0_1),
    StableHlo.TRef.binary φ.v5 φ.v9 φ.v10 (cmpi .sle),
    StableHlo.TRef.binary φ.v7 φ.v10 φ.v11 andi,
    StableHlo.TRef.nullary φ.c_3 (constantI S_ 1 1#1),
    StableHlo.TRef.binary φ.v11 φ.c_3 φ.v12 (fun x v => Host.reduce IntOp.andi x v reducesTo_S16384x1_S16384_d1 h_S_),
    StableHlo.TRef.binary arg0 φ.v5 φ.v13 (fun x i => Host.gather gather_S1024x256_S16384x1_S16384x256_1_0_n_n_0_1_1256 x i),
    StableHlo.TRef.unary φ.v12 φ.v14 (broadcastInDim S16384x256 ![0] bcast_S16384_S16384x256_0),
    StableHlo.TRef.nullary φ.cst (constant S_ .f32 0x7FC00000#32),
    StableHlo.TRef.unary φ.cst φ.v15 (broadcastInDim S16384x256 ![] bcast_S_S16384x256),
    StableHlo.TRef.ternary φ.v14 φ.v13 φ.v15 φ.v16 select]

/-- Layer 0: the distances, their softmax and the nearest indices. -/
def near0 : List (Op F) :=
  [StableHlo.nullary main_cst (constant S_ .f32 0x00000000#32),
    StableHlo.unary main_cst main_v0 (broadcastInDim S16384x256 ![] bcast_S_S16384x256 : (⟨S_, .f32⟩ : BufTy).Contents (Elt F) → (⟨S16384x256, .f32⟩ : BufTy).Contents (Elt F)),
    StableHlo.unary main_arg1 main_v1 ((extractStridedSlice S1x1024x256 ![0, 0, 0] · slices_S4x1024x256_S1x1024x256_0_0_0) : (⟨S4x1024x256, .f32⟩ : BufTy).Contents (Elt F) → (⟨S1x1024x256, .f32⟩ : BufTy).Contents (Elt F)),
    StableHlo.reshape main_v1 main_v2 (rfl : (.f32 : EltTy) = .f32) shapeCasts_S1x1024x256_S1024x256,
    StableHlo.binary main_arg0 main_arg0 main_v3 (mulf : (⟨S16384x256, .f32⟩ : BufTy).Contents (Elt F) → (⟨S16384x256, .f32⟩ : BufTy).Contents (Elt F) → (⟨S16384x256, .f32⟩ : BufTy).Contents (Elt F)),
    StableHlo.nullary main_cst_0 (constant S_ .f32 0x00000000#32),
    StableHlo.binary main_v3 main_cst_0 main_v4 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    StableHlo.unary main_v4 main_v5 (broadcastInDim S16384x1 ![0] bcast_S16384_S16384x1_0 : (⟨S16384, .f32⟩ : BufTy).Contents (Elt F) → (⟨S16384x1, .f32⟩ : BufTy).Contents (Elt F)),
    StableHlo.binary main_v2 main_v2 main_v6 (mulf : (⟨S1024x256, .f32⟩ : BufTy).Contents (Elt F) → (⟨S1024x256, .f32⟩ : BufTy).Contents (Elt F) → (⟨S1024x256, .f32⟩ : BufTy).Contents (Elt F)),
    StableHlo.nullary main_cst_1 (constant S_ .f32 0x00000000#32),
    StableHlo.binary main_v6 main_cst_1 main_v7 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    StableHlo.unary main_v7 main_v8 (broadcastInDim S1x1024 ![1] bcast_S1024_S1x1024_1 : (⟨S1024, .f32⟩ : BufTy).Contents (Elt F) → (⟨S1x1024, .f32⟩ : BufTy).Contents (Elt F)),
    StableHlo.unary main_v2 main_v9 ((transpose S256x1024 [1, 0] · transposes_S1024x256_S256x1024_1_0) : (⟨S1024x256, .f32⟩ : BufTy).Contents (Elt F) → (⟨S256x1024, .f32⟩ : BufTy).Contents (Elt F)),
    StableHlo.binary main_arg0 main_v9 main_v10 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    StableHlo.nullary main_cst_2 (constant S_ .f32 0x40000000#32),
    StableHlo.unary main_cst_2 main_v11 (broadcastInDim S16384x1024 ![] bcast_S_S16384x1024 : (⟨S_, .f32⟩ : BufTy).Contents (Elt F) → (⟨S16384x1024, .f32⟩ : BufTy).Contents (Elt F)),
    StableHlo.binary main_v11 main_v10 main_v12 (mulf : (⟨S16384x1024, .f32⟩ : BufTy).Contents (Elt F) → (⟨S16384x1024, .f32⟩ : BufTy).Contents (Elt F) → (⟨S16384x1024, .f32⟩ : BufTy).Contents (Elt F)),
    StableHlo.unary main_v5 main_v13 (broadcastInDim S16384x1024 ![0, 1] bcast_S16384x1_S16384x1024_0_1 : (⟨S16384x1, .f32⟩ : BufTy).Contents (Elt F) → (⟨S16384x1024, .f32⟩ : BufTy).Contents (Elt F)),
    StableHlo.binary main_v13 main_v12 main_v14 (subf : (⟨S16384x1024, .f32⟩ : BufTy).Contents (Elt F) → (⟨S16384x1024, .f32⟩ : BufTy).Contents (Elt F) → (⟨S16384x1024, .f32⟩ : BufTy).Contents (Elt F)),
    StableHlo.unary main_v8 main_v15 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v14 main_v15 main_v16 (addf : (⟨S16384x1024, .f32⟩ : BufTy).Contents (Elt F) → (⟨S16384x1024, .f32⟩ : BufTy).Contents (Elt F) → (⟨S16384x1024, .f32⟩ : BufTy).Contents (Elt F)),
    StableHlo.nullary main_cst_3 (constant S_ .f32 0x2B8CBCCC#32)]
  ++ clipOps (.of main_v16) (.of main_cst_3) main_call0
  ++ [StableHlo.unary main_v17 main_v18 (Host.sqrt : (⟨S16384x1024, .f32⟩ : BufTy).Contents (Elt F) → (⟨S16384x1024, .f32⟩ : BufTy).Contents (Elt F)),
    StableHlo.unary main_v18 main_v19 (Host.negf : (⟨S16384x1024, .f32⟩ : BufTy).Contents (Elt F) → (⟨S16384x1024, .f32⟩ : BufTy).Contents (Elt F)),
    StableHlo.nullary main_cst_4 (constant S_ .f32 0x3F000000#32),
    StableHlo.unary main_cst_4 main_v20 (broadcastInDim S16384x1024 ![] bcast_S_S16384x1024 : (⟨S_, .f32⟩ : BufTy).Contents (Elt F) → (⟨S16384x1024, .f32⟩ : BufTy).Contents (Elt F)),
    StableHlo.binary main_v19 main_v20 main_v21 (Host.divf : (⟨S16384x1024, .f32⟩ : BufTy).Contents (Elt F) → (⟨S16384x1024, .f32⟩ : BufTy).Contents (Elt F) → (⟨S16384x1024, .f32⟩ : BufTy).Contents (Elt F)),
    StableHlo.nullary main_cst_5 (constant S_ .f32 0xFF800000#32),
    StableHlo.binary main_v21 main_cst_5 main_v22 ((fun x v => Host.reduce FloatOps.maximumf x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    StableHlo.nullary main_cst_6 (constant S_ .f32 0xFF800000#32),
    StableHlo.unary main_cst_6 main_v23 (broadcastInDim S16384 ![] bcast_S_S16384 : (⟨S_, .f32⟩ : BufTy).Contents (Elt F) → (⟨S16384, .f32⟩ : BufTy).Contents (Elt F)),
    StableHlo.binary main_v23 main_v22 main_v24 (maximumf : (⟨S16384, .f32⟩ : BufTy).Contents (Elt F) → (⟨S16384, .f32⟩ : BufTy).Contents (Elt F) → (⟨S16384, .f32⟩ : BufTy).Contents (Elt F)),
    StableHlo.unary main_v24 main_v25 (broadcastInDim S16384x1 ![0] bcast_S16384_S16384x1_0 : (⟨S16384, .f32⟩ : BufTy).Contents (Elt F) → (⟨S16384x1, .f32⟩ : BufTy).Contents (Elt F)),
    StableHlo.unary main_v25 main_v26 (broadcastInDim S16384x1024 ![0, 1] bcast_S16384x1_S16384x1024_0_1 : (⟨S16384x1, .f32⟩ : BufTy).Contents (Elt F) → (⟨S16384x1024, .f32⟩ : BufTy).Contents (Elt F)),
    StableHlo.binary main_v21 main_v26 main_v27 (subf : (⟨S16384x1024, .f32⟩ : BufTy).Contents (Elt F) → (⟨S16384x1024, .f32⟩ : BufTy).Contents (Elt F) → (⟨S16384x1024, .f32⟩ : BufTy).Contents (Elt F)),
    StableHlo.unary main_v27 main_v28 (Host.exp : (⟨S16384x1024, .f32⟩ : BufTy).Contents (Elt F) → (⟨S16384x1024, .f32⟩ : BufTy).Contents (Elt F)),
    StableHlo.nullary main_cst_7 (constant S_ .f32 0x00000000#32),
    StableHlo.binary main_v28 main_cst_7 main_v29 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    StableHlo.unary main_v29 main_v30 (broadcastInDim S16384x1 ![0] bcast_S16384_S16384x1_0 : (⟨S16384, .f32⟩ : BufTy).Contents (Elt F) → (⟨S16384x1, .f32⟩ : BufTy).Contents (Elt F)),
    StableHlo.unary main_v30 main_v31 (broadcastInDim S16384x1024 ![0, 1] bcast_S16384x1_S16384x1024_0_1 : (⟨S16384x1, .f32⟩ : BufTy).Contents (Elt F) → (⟨S16384x1024, .f32⟩ : BufTy).Contents (Elt F)),
    StableHlo.binary main_v28 main_v31 main_v32 (Host.divf : (⟨S16384x1024, .f32⟩ : BufTy).Contents (Elt F) → (⟨S16384x1024, .f32⟩ : BufTy).Contents (Elt F) → (⟨S16384x1024, .f32⟩ : BufTy).Contents (Elt F))]
  ++ argminOps (.of main_v18) main_call1

/-- Layer 0: the nearest entries, added to the sum and taken from the residual. -/
def step0 : List (Op F) :=
  takeOps (.of main_v2) (.of main_v33) main_call2
  ++ [StableHlo.binary main_v0 main_v34 main_v35 (addf : (⟨S16384x256, .f32⟩ : BufTy).Contents (Elt F) → (⟨S16384x256, .f32⟩ : BufTy).Contents (Elt F) → (⟨S16384x256, .f32⟩ : BufTy).Contents (Elt F)),
    StableHlo.binary main_arg0 main_v34 main_v36 (subf : (⟨S16384x256, .f32⟩ : BufTy).Contents (Elt F) → (⟨S16384x256, .f32⟩ : BufTy).Contents (Elt F) → (⟨S16384x256, .f32⟩ : BufTy).Contents (Elt F))]

/-- Layer 1: the distances, their softmax and the nearest indices. -/
def near1 : List (Op F) :=
  [StableHlo.unary main_arg1 main_v37 ((extractStridedSlice S1x1024x256 ![1, 0, 0] · slices_S4x1024x256_S1x1024x256_1_0_0) : (⟨S4x1024x256, .f32⟩ : BufTy).Contents (Elt F) → (⟨S1x1024x256, .f32⟩ : BufTy).Contents (Elt F)),
    StableHlo.reshape main_v37 main_v38 (rfl : (.f32 : EltTy) = .f32) shapeCasts_S1x1024x256_S1024x256,
    StableHlo.binary main_v36 main_v36 main_v39 (mulf : (⟨S16384x256, .f32⟩ : BufTy).Contents (Elt F) → (⟨S16384x256, .f32⟩ : BufTy).Contents (Elt F) → (⟨S16384x256, .f32⟩ : BufTy).Contents (Elt F)),
    StableHlo.nullary main_cst_8 (constant S_ .f32 0x00000000#32),
    StableHlo.binary main_v39 main_cst_8 main_v40 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    StableHlo.unary main_v40 main_v41 (broadcastInDim S16384x1 ![0] bcast_S16384_S16384x1_0 : (⟨S16384, .f32⟩ : BufTy).Contents (Elt F) → (⟨S16384x1, .f32⟩ : BufTy).Contents (Elt F)),
    StableHlo.binary main_v38 main_v38 main_v42 (mulf : (⟨S1024x256, .f32⟩ : BufTy).Contents (Elt F) → (⟨S1024x256, .f32⟩ : BufTy).Contents (Elt F) → (⟨S1024x256, .f32⟩ : BufTy).Contents (Elt F)),
    StableHlo.nullary main_cst_9 (constant S_ .f32 0x00000000#32),
    StableHlo.binary main_v42 main_cst_9 main_v43 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    StableHlo.unary main_v43 main_v44 (broadcastInDim S1x1024 ![1] bcast_S1024_S1x1024_1 : (⟨S1024, .f32⟩ : BufTy).Contents (Elt F) → (⟨S1x1024, .f32⟩ : BufTy).Contents (Elt F)),
    StableHlo.unary main_v38 main_v45 ((transpose S256x1024 [1, 0] · transposes_S1024x256_S256x1024_1_0) : (⟨S1024x256, .f32⟩ : BufTy).Contents (Elt F) → (⟨S256x1024, .f32⟩ : BufTy).Contents (Elt F)),
    StableHlo.binary main_v36 main_v45 main_v46 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    StableHlo.nullary main_cst_10 (constant S_ .f32 0x40000000#32),
    StableHlo.unary main_cst_10 main_v47 (broadcastInDim S16384x1024 ![] bcast_S_S16384x1024 : (⟨S_, .f32⟩ : BufTy).Contents (Elt F) → (⟨S16384x1024, .f32⟩ : BufTy).Contents (Elt F)),
    StableHlo.binary main_v47 main_v46 main_v48 (mulf : (⟨S16384x1024, .f32⟩ : BufTy).Contents (Elt F) → (⟨S16384x1024, .f32⟩ : BufTy).Contents (Elt F) → (⟨S16384x1024, .f32⟩ : BufTy).Contents (Elt F)),
    StableHlo.unary main_v41 main_v49 (broadcastInDim S16384x1024 ![0, 1] bcast_S16384x1_S16384x1024_0_1 : (⟨S16384x1, .f32⟩ : BufTy).Contents (Elt F) → (⟨S16384x1024, .f32⟩ : BufTy).Contents (Elt F)),
    StableHlo.binary main_v49 main_v48 main_v50 (subf : (⟨S16384x1024, .f32⟩ : BufTy).Contents (Elt F) → (⟨S16384x1024, .f32⟩ : BufTy).Contents (Elt F) → (⟨S16384x1024, .f32⟩ : BufTy).Contents (Elt F)),
    StableHlo.unary main_v44 main_v51 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v50 main_v51 main_v52 (addf : (⟨S16384x1024, .f32⟩ : BufTy).Contents (Elt F) → (⟨S16384x1024, .f32⟩ : BufTy).Contents (Elt F) → (⟨S16384x1024, .f32⟩ : BufTy).Contents (Elt F)),
    StableHlo.nullary main_cst_11 (constant S_ .f32 0x2B8CBCCC#32)]
  ++ clipOps (.of main_v52) (.of main_cst_11) main_call3
  ++ [StableHlo.unary main_v53 main_v54 (Host.sqrt : (⟨S16384x1024, .f32⟩ : BufTy).Contents (Elt F) → (⟨S16384x1024, .f32⟩ : BufTy).Contents (Elt F)),
    StableHlo.unary main_v54 main_v55 (Host.negf : (⟨S16384x1024, .f32⟩ : BufTy).Contents (Elt F) → (⟨S16384x1024, .f32⟩ : BufTy).Contents (Elt F)),
    StableHlo.nullary main_cst_12 (constant S_ .f32 0x3F000000#32),
    StableHlo.unary main_cst_12 main_v56 (broadcastInDim S16384x1024 ![] bcast_S_S16384x1024 : (⟨S_, .f32⟩ : BufTy).Contents (Elt F) → (⟨S16384x1024, .f32⟩ : BufTy).Contents (Elt F)),
    StableHlo.binary main_v55 main_v56 main_v57 (Host.divf : (⟨S16384x1024, .f32⟩ : BufTy).Contents (Elt F) → (⟨S16384x1024, .f32⟩ : BufTy).Contents (Elt F) → (⟨S16384x1024, .f32⟩ : BufTy).Contents (Elt F)),
    StableHlo.nullary main_cst_13 (constant S_ .f32 0xFF800000#32),
    StableHlo.binary main_v57 main_cst_13 main_v58 ((fun x v => Host.reduce FloatOps.maximumf x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    StableHlo.nullary main_cst_14 (constant S_ .f32 0xFF800000#32),
    StableHlo.unary main_cst_14 main_v59 (broadcastInDim S16384 ![] bcast_S_S16384 : (⟨S_, .f32⟩ : BufTy).Contents (Elt F) → (⟨S16384, .f32⟩ : BufTy).Contents (Elt F)),
    StableHlo.binary main_v59 main_v58 main_v60 (maximumf : (⟨S16384, .f32⟩ : BufTy).Contents (Elt F) → (⟨S16384, .f32⟩ : BufTy).Contents (Elt F) → (⟨S16384, .f32⟩ : BufTy).Contents (Elt F)),
    StableHlo.unary main_v60 main_v61 (broadcastInDim S16384x1 ![0] bcast_S16384_S16384x1_0 : (⟨S16384, .f32⟩ : BufTy).Contents (Elt F) → (⟨S16384x1, .f32⟩ : BufTy).Contents (Elt F)),
    StableHlo.unary main_v61 main_v62 (broadcastInDim S16384x1024 ![0, 1] bcast_S16384x1_S16384x1024_0_1 : (⟨S16384x1, .f32⟩ : BufTy).Contents (Elt F) → (⟨S16384x1024, .f32⟩ : BufTy).Contents (Elt F)),
    StableHlo.binary main_v57 main_v62 main_v63 (subf : (⟨S16384x1024, .f32⟩ : BufTy).Contents (Elt F) → (⟨S16384x1024, .f32⟩ : BufTy).Contents (Elt F) → (⟨S16384x1024, .f32⟩ : BufTy).Contents (Elt F)),
    StableHlo.unary main_v63 main_v64 (Host.exp : (⟨S16384x1024, .f32⟩ : BufTy).Contents (Elt F) → (⟨S16384x1024, .f32⟩ : BufTy).Contents (Elt F)),
    StableHlo.nullary main_cst_15 (constant S_ .f32 0x00000000#32),
    StableHlo.binary main_v64 main_cst_15 main_v65 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    StableHlo.unary main_v65 main_v66 (broadcastInDim S16384x1 ![0] bcast_S16384_S16384x1_0 : (⟨S16384, .f32⟩ : BufTy).Contents (Elt F) → (⟨S16384x1, .f32⟩ : BufTy).Contents (Elt F)),
    StableHlo.unary main_v66 main_v67 (broadcastInDim S16384x1024 ![0, 1] bcast_S16384x1_S16384x1024_0_1 : (⟨S16384x1, .f32⟩ : BufTy).Contents (Elt F) → (⟨S16384x1024, .f32⟩ : BufTy).Contents (Elt F)),
    StableHlo.binary main_v64 main_v67 main_v68 (Host.divf : (⟨S16384x1024, .f32⟩ : BufTy).Contents (Elt F) → (⟨S16384x1024, .f32⟩ : BufTy).Contents (Elt F) → (⟨S16384x1024, .f32⟩ : BufTy).Contents (Elt F))]
  ++ argminOps (.of main_v54) main_call4

/-- Layer 1: the nearest entries, added to the sum and taken from the residual. -/
def step1 : List (Op F) :=
  takeOps (.of main_v38) (.of main_v69) main_call5
  ++ [StableHlo.binary main_v35 main_v70 main_v71 (addf : (⟨S16384x256, .f32⟩ : BufTy).Contents (Elt F) → (⟨S16384x256, .f32⟩ : BufTy).Contents (Elt F) → (⟨S16384x256, .f32⟩ : BufTy).Contents (Elt F)),
    StableHlo.binary main_v36 main_v70 main_v72 (subf : (⟨S16384x256, .f32⟩ : BufTy).Contents (Elt F) → (⟨S16384x256, .f32⟩ : BufTy).Contents (Elt F) → (⟨S16384x256, .f32⟩ : BufTy).Contents (Elt F))]

/-- Layer 2: the distances, their softmax and the nearest indices. -/
def near2 : List (Op F) :=
  [StableHlo.unary main_arg1 main_v73 ((extractStridedSlice S1x1024x256 ![2, 0, 0] · slices_S4x1024x256_S1x1024x256_2_0_0) : (⟨S4x1024x256, .f32⟩ : BufTy).Contents (Elt F) → (⟨S1x1024x256, .f32⟩ : BufTy).Contents (Elt F)),
    StableHlo.reshape main_v73 main_v74 (rfl : (.f32 : EltTy) = .f32) shapeCasts_S1x1024x256_S1024x256,
    StableHlo.binary main_v72 main_v72 main_v75 (mulf : (⟨S16384x256, .f32⟩ : BufTy).Contents (Elt F) → (⟨S16384x256, .f32⟩ : BufTy).Contents (Elt F) → (⟨S16384x256, .f32⟩ : BufTy).Contents (Elt F)),
    StableHlo.nullary main_cst_16 (constant S_ .f32 0x00000000#32),
    StableHlo.binary main_v75 main_cst_16 main_v76 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    StableHlo.unary main_v76 main_v77 (broadcastInDim S16384x1 ![0] bcast_S16384_S16384x1_0 : (⟨S16384, .f32⟩ : BufTy).Contents (Elt F) → (⟨S16384x1, .f32⟩ : BufTy).Contents (Elt F)),
    StableHlo.binary main_v74 main_v74 main_v78 (mulf : (⟨S1024x256, .f32⟩ : BufTy).Contents (Elt F) → (⟨S1024x256, .f32⟩ : BufTy).Contents (Elt F) → (⟨S1024x256, .f32⟩ : BufTy).Contents (Elt F)),
    StableHlo.nullary main_cst_17 (constant S_ .f32 0x00000000#32),
    StableHlo.binary main_v78 main_cst_17 main_v79 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    StableHlo.unary main_v79 main_v80 (broadcastInDim S1x1024 ![1] bcast_S1024_S1x1024_1 : (⟨S1024, .f32⟩ : BufTy).Contents (Elt F) → (⟨S1x1024, .f32⟩ : BufTy).Contents (Elt F)),
    StableHlo.unary main_v74 main_v81 ((transpose S256x1024 [1, 0] · transposes_S1024x256_S256x1024_1_0) : (⟨S1024x256, .f32⟩ : BufTy).Contents (Elt F) → (⟨S256x1024, .f32⟩ : BufTy).Contents (Elt F)),
    StableHlo.binary main_v72 main_v81 main_v82 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    StableHlo.nullary main_cst_18 (constant S_ .f32 0x40000000#32),
    StableHlo.unary main_cst_18 main_v83 (broadcastInDim S16384x1024 ![] bcast_S_S16384x1024 : (⟨S_, .f32⟩ : BufTy).Contents (Elt F) → (⟨S16384x1024, .f32⟩ : BufTy).Contents (Elt F)),
    StableHlo.binary main_v83 main_v82 main_v84 (mulf : (⟨S16384x1024, .f32⟩ : BufTy).Contents (Elt F) → (⟨S16384x1024, .f32⟩ : BufTy).Contents (Elt F) → (⟨S16384x1024, .f32⟩ : BufTy).Contents (Elt F)),
    StableHlo.unary main_v77 main_v85 (broadcastInDim S16384x1024 ![0, 1] bcast_S16384x1_S16384x1024_0_1 : (⟨S16384x1, .f32⟩ : BufTy).Contents (Elt F) → (⟨S16384x1024, .f32⟩ : BufTy).Contents (Elt F)),
    StableHlo.binary main_v85 main_v84 main_v86 (subf : (⟨S16384x1024, .f32⟩ : BufTy).Contents (Elt F) → (⟨S16384x1024, .f32⟩ : BufTy).Contents (Elt F) → (⟨S16384x1024, .f32⟩ : BufTy).Contents (Elt F)),
    StableHlo.unary main_v80 main_v87 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v86 main_v87 main_v88 (addf : (⟨S16384x1024, .f32⟩ : BufTy).Contents (Elt F) → (⟨S16384x1024, .f32⟩ : BufTy).Contents (Elt F) → (⟨S16384x1024, .f32⟩ : BufTy).Contents (Elt F)),
    StableHlo.nullary main_cst_19 (constant S_ .f32 0x2B8CBCCC#32)]
  ++ clipOps (.of main_v88) (.of main_cst_19) main_call6
  ++ [StableHlo.unary main_v89 main_v90 (Host.sqrt : (⟨S16384x1024, .f32⟩ : BufTy).Contents (Elt F) → (⟨S16384x1024, .f32⟩ : BufTy).Contents (Elt F)),
    StableHlo.unary main_v90 main_v91 (Host.negf : (⟨S16384x1024, .f32⟩ : BufTy).Contents (Elt F) → (⟨S16384x1024, .f32⟩ : BufTy).Contents (Elt F)),
    StableHlo.nullary main_cst_20 (constant S_ .f32 0x3F000000#32),
    StableHlo.unary main_cst_20 main_v92 (broadcastInDim S16384x1024 ![] bcast_S_S16384x1024 : (⟨S_, .f32⟩ : BufTy).Contents (Elt F) → (⟨S16384x1024, .f32⟩ : BufTy).Contents (Elt F)),
    StableHlo.binary main_v91 main_v92 main_v93 (Host.divf : (⟨S16384x1024, .f32⟩ : BufTy).Contents (Elt F) → (⟨S16384x1024, .f32⟩ : BufTy).Contents (Elt F) → (⟨S16384x1024, .f32⟩ : BufTy).Contents (Elt F)),
    StableHlo.nullary main_cst_21 (constant S_ .f32 0xFF800000#32),
    StableHlo.binary main_v93 main_cst_21 main_v94 ((fun x v => Host.reduce FloatOps.maximumf x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    StableHlo.nullary main_cst_22 (constant S_ .f32 0xFF800000#32),
    StableHlo.unary main_cst_22 main_v95 (broadcastInDim S16384 ![] bcast_S_S16384 : (⟨S_, .f32⟩ : BufTy).Contents (Elt F) → (⟨S16384, .f32⟩ : BufTy).Contents (Elt F)),
    StableHlo.binary main_v95 main_v94 main_v96 (maximumf : (⟨S16384, .f32⟩ : BufTy).Contents (Elt F) → (⟨S16384, .f32⟩ : BufTy).Contents (Elt F) → (⟨S16384, .f32⟩ : BufTy).Contents (Elt F)),
    StableHlo.unary main_v96 main_v97 (broadcastInDim S16384x1 ![0] bcast_S16384_S16384x1_0 : (⟨S16384, .f32⟩ : BufTy).Contents (Elt F) → (⟨S16384x1, .f32⟩ : BufTy).Contents (Elt F)),
    StableHlo.unary main_v97 main_v98 (broadcastInDim S16384x1024 ![0, 1] bcast_S16384x1_S16384x1024_0_1 : (⟨S16384x1, .f32⟩ : BufTy).Contents (Elt F) → (⟨S16384x1024, .f32⟩ : BufTy).Contents (Elt F)),
    StableHlo.binary main_v93 main_v98 main_v99 (subf : (⟨S16384x1024, .f32⟩ : BufTy).Contents (Elt F) → (⟨S16384x1024, .f32⟩ : BufTy).Contents (Elt F) → (⟨S16384x1024, .f32⟩ : BufTy).Contents (Elt F)),
    StableHlo.unary main_v99 main_v100 (Host.exp : (⟨S16384x1024, .f32⟩ : BufTy).Contents (Elt F) → (⟨S16384x1024, .f32⟩ : BufTy).Contents (Elt F)),
    StableHlo.nullary main_cst_23 (constant S_ .f32 0x00000000#32),
    StableHlo.binary main_v100 main_cst_23 main_v101 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    StableHlo.unary main_v101 main_v102 (broadcastInDim S16384x1 ![0] bcast_S16384_S16384x1_0 : (⟨S16384, .f32⟩ : BufTy).Contents (Elt F) → (⟨S16384x1, .f32⟩ : BufTy).Contents (Elt F)),
    StableHlo.unary main_v102 main_v103 (broadcastInDim S16384x1024 ![0, 1] bcast_S16384x1_S16384x1024_0_1 : (⟨S16384x1, .f32⟩ : BufTy).Contents (Elt F) → (⟨S16384x1024, .f32⟩ : BufTy).Contents (Elt F)),
    StableHlo.binary main_v100 main_v103 main_v104 (Host.divf : (⟨S16384x1024, .f32⟩ : BufTy).Contents (Elt F) → (⟨S16384x1024, .f32⟩ : BufTy).Contents (Elt F) → (⟨S16384x1024, .f32⟩ : BufTy).Contents (Elt F))]
  ++ argminOps (.of main_v90) main_call7

/-- Layer 2: the nearest entries, added to the sum and taken from the residual. -/
def step2 : List (Op F) :=
  takeOps (.of main_v74) (.of main_v105) main_call8
  ++ [StableHlo.binary main_v71 main_v106 main_v107 (addf : (⟨S16384x256, .f32⟩ : BufTy).Contents (Elt F) → (⟨S16384x256, .f32⟩ : BufTy).Contents (Elt F) → (⟨S16384x256, .f32⟩ : BufTy).Contents (Elt F)),
    StableHlo.binary main_v72 main_v106 main_v108 (subf : (⟨S16384x256, .f32⟩ : BufTy).Contents (Elt F) → (⟨S16384x256, .f32⟩ : BufTy).Contents (Elt F) → (⟨S16384x256, .f32⟩ : BufTy).Contents (Elt F))]

/-- Layer 3: the distances, their softmax and the nearest indices. -/
def near3 : List (Op F) :=
  [StableHlo.unary main_arg1 main_v109 ((extractStridedSlice S1x1024x256 ![3, 0, 0] · slices_S4x1024x256_S1x1024x256_3_0_0) : (⟨S4x1024x256, .f32⟩ : BufTy).Contents (Elt F) → (⟨S1x1024x256, .f32⟩ : BufTy).Contents (Elt F)),
    StableHlo.reshape main_v109 main_v110 (rfl : (.f32 : EltTy) = .f32) shapeCasts_S1x1024x256_S1024x256,
    StableHlo.binary main_v108 main_v108 main_v111 (mulf : (⟨S16384x256, .f32⟩ : BufTy).Contents (Elt F) → (⟨S16384x256, .f32⟩ : BufTy).Contents (Elt F) → (⟨S16384x256, .f32⟩ : BufTy).Contents (Elt F)),
    StableHlo.nullary main_cst_24 (constant S_ .f32 0x00000000#32),
    StableHlo.binary main_v111 main_cst_24 main_v112 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    StableHlo.unary main_v112 main_v113 (broadcastInDim S16384x1 ![0] bcast_S16384_S16384x1_0 : (⟨S16384, .f32⟩ : BufTy).Contents (Elt F) → (⟨S16384x1, .f32⟩ : BufTy).Contents (Elt F)),
    StableHlo.binary main_v110 main_v110 main_v114 (mulf : (⟨S1024x256, .f32⟩ : BufTy).Contents (Elt F) → (⟨S1024x256, .f32⟩ : BufTy).Contents (Elt F) → (⟨S1024x256, .f32⟩ : BufTy).Contents (Elt F)),
    StableHlo.nullary main_cst_25 (constant S_ .f32 0x00000000#32),
    StableHlo.binary main_v114 main_cst_25 main_v115 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    StableHlo.unary main_v115 main_v116 (broadcastInDim S1x1024 ![1] bcast_S1024_S1x1024_1 : (⟨S1024, .f32⟩ : BufTy).Contents (Elt F) → (⟨S1x1024, .f32⟩ : BufTy).Contents (Elt F)),
    StableHlo.unary main_v110 main_v117 ((transpose S256x1024 [1, 0] · transposes_S1024x256_S256x1024_1_0) : (⟨S1024x256, .f32⟩ : BufTy).Contents (Elt F) → (⟨S256x1024, .f32⟩ : BufTy).Contents (Elt F)),
    StableHlo.binary main_v108 main_v117 main_v118 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    StableHlo.nullary main_cst_26 (constant S_ .f32 0x40000000#32),
    StableHlo.unary main_cst_26 main_v119 (broadcastInDim S16384x1024 ![] bcast_S_S16384x1024 : (⟨S_, .f32⟩ : BufTy).Contents (Elt F) → (⟨S16384x1024, .f32⟩ : BufTy).Contents (Elt F)),
    StableHlo.binary main_v119 main_v118 main_v120 (mulf : (⟨S16384x1024, .f32⟩ : BufTy).Contents (Elt F) → (⟨S16384x1024, .f32⟩ : BufTy).Contents (Elt F) → (⟨S16384x1024, .f32⟩ : BufTy).Contents (Elt F)),
    StableHlo.unary main_v113 main_v121 (broadcastInDim S16384x1024 ![0, 1] bcast_S16384x1_S16384x1024_0_1 : (⟨S16384x1, .f32⟩ : BufTy).Contents (Elt F) → (⟨S16384x1024, .f32⟩ : BufTy).Contents (Elt F)),
    StableHlo.binary main_v121 main_v120 main_v122 (subf : (⟨S16384x1024, .f32⟩ : BufTy).Contents (Elt F) → (⟨S16384x1024, .f32⟩ : BufTy).Contents (Elt F) → (⟨S16384x1024, .f32⟩ : BufTy).Contents (Elt F)),
    StableHlo.unary main_v116 main_v123 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v122 main_v123 main_v124 (addf : (⟨S16384x1024, .f32⟩ : BufTy).Contents (Elt F) → (⟨S16384x1024, .f32⟩ : BufTy).Contents (Elt F) → (⟨S16384x1024, .f32⟩ : BufTy).Contents (Elt F)),
    StableHlo.nullary main_cst_27 (constant S_ .f32 0x2B8CBCCC#32)]
  ++ clipOps (.of main_v124) (.of main_cst_27) main_call9
  ++ [StableHlo.unary main_v125 main_v126 (Host.sqrt : (⟨S16384x1024, .f32⟩ : BufTy).Contents (Elt F) → (⟨S16384x1024, .f32⟩ : BufTy).Contents (Elt F)),
    StableHlo.unary main_v126 main_v127 (Host.negf : (⟨S16384x1024, .f32⟩ : BufTy).Contents (Elt F) → (⟨S16384x1024, .f32⟩ : BufTy).Contents (Elt F)),
    StableHlo.nullary main_cst_28 (constant S_ .f32 0x3F000000#32),
    StableHlo.unary main_cst_28 main_v128 (broadcastInDim S16384x1024 ![] bcast_S_S16384x1024 : (⟨S_, .f32⟩ : BufTy).Contents (Elt F) → (⟨S16384x1024, .f32⟩ : BufTy).Contents (Elt F)),
    StableHlo.binary main_v127 main_v128 main_v129 (Host.divf : (⟨S16384x1024, .f32⟩ : BufTy).Contents (Elt F) → (⟨S16384x1024, .f32⟩ : BufTy).Contents (Elt F) → (⟨S16384x1024, .f32⟩ : BufTy).Contents (Elt F)),
    StableHlo.nullary main_cst_29 (constant S_ .f32 0xFF800000#32),
    StableHlo.binary main_v129 main_cst_29 main_v130 ((fun x v => Host.reduce FloatOps.maximumf x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    StableHlo.nullary main_cst_30 (constant S_ .f32 0xFF800000#32),
    StableHlo.unary main_cst_30 main_v131 (broadcastInDim S16384 ![] bcast_S_S16384 : (⟨S_, .f32⟩ : BufTy).Contents (Elt F) → (⟨S16384, .f32⟩ : BufTy).Contents (Elt F)),
    StableHlo.binary main_v131 main_v130 main_v132 (maximumf : (⟨S16384, .f32⟩ : BufTy).Contents (Elt F) → (⟨S16384, .f32⟩ : BufTy).Contents (Elt F) → (⟨S16384, .f32⟩ : BufTy).Contents (Elt F)),
    StableHlo.unary main_v132 main_v133 (broadcastInDim S16384x1 ![0] bcast_S16384_S16384x1_0 : (⟨S16384, .f32⟩ : BufTy).Contents (Elt F) → (⟨S16384x1, .f32⟩ : BufTy).Contents (Elt F)),
    StableHlo.unary main_v133 main_v134 (broadcastInDim S16384x1024 ![0, 1] bcast_S16384x1_S16384x1024_0_1 : (⟨S16384x1, .f32⟩ : BufTy).Contents (Elt F) → (⟨S16384x1024, .f32⟩ : BufTy).Contents (Elt F)),
    StableHlo.binary main_v129 main_v134 main_v135 (subf : (⟨S16384x1024, .f32⟩ : BufTy).Contents (Elt F) → (⟨S16384x1024, .f32⟩ : BufTy).Contents (Elt F) → (⟨S16384x1024, .f32⟩ : BufTy).Contents (Elt F)),
    StableHlo.unary main_v135 main_v136 (Host.exp : (⟨S16384x1024, .f32⟩ : BufTy).Contents (Elt F) → (⟨S16384x1024, .f32⟩ : BufTy).Contents (Elt F)),
    StableHlo.nullary main_cst_31 (constant S_ .f32 0x00000000#32),
    StableHlo.binary main_v136 main_cst_31 main_v137 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    StableHlo.unary main_v137 main_v138 (broadcastInDim S16384x1 ![0] bcast_S16384_S16384x1_0 : (⟨S16384, .f32⟩ : BufTy).Contents (Elt F) → (⟨S16384x1, .f32⟩ : BufTy).Contents (Elt F)),
    StableHlo.unary main_v138 main_v139 (broadcastInDim S16384x1024 ![0, 1] bcast_S16384x1_S16384x1024_0_1 : (⟨S16384x1, .f32⟩ : BufTy).Contents (Elt F) → (⟨S16384x1024, .f32⟩ : BufTy).Contents (Elt F)),
    StableHlo.binary main_v136 main_v139 main_v140 (Host.divf : (⟨S16384x1024, .f32⟩ : BufTy).Contents (Elt F) → (⟨S16384x1024, .f32⟩ : BufTy).Contents (Elt F) → (⟨S16384x1024, .f32⟩ : BufTy).Contents (Elt F))]
  ++ argminOps (.of main_v126) main_call10

/-- Layer 3: the nearest entries, added to the sum and taken from the residual. -/
def step3 : List (Op F) :=
  takeOps (.of main_v110) (.of main_v141) main_call11
  ++ [StableHlo.binary main_v107 main_v142 main_v143 (addf : (⟨S16384x256, .f32⟩ : BufTy).Contents (Elt F) → (⟨S16384x256, .f32⟩ : BufTy).Contents (Elt F) → (⟨S16384x256, .f32⟩ : BufTy).Contents (Elt F)),
    StableHlo.binary main_v108 main_v142 main_v144 (subf : (⟨S16384x256, .f32⟩ : BufTy).Contents (Elt F) → (⟨S16384x256, .f32⟩ : BufTy).Contents (Elt F) → (⟨S16384x256, .f32⟩ : BufTy).Contents (Elt F))]

/-- The stacking of the four layers' probabilities and indices. -/
def opsEnd : List (Op F) :=
  [StableHlo.unary main_v32 main_v145 (broadcastInDim S1x16384x1024 ![1, 2] bcast_S16384x1024_S1x16384x1024_1_2 : (⟨S16384x1024, .f32⟩ : BufTy).Contents (Elt F) → (⟨S1x16384x1024, .f32⟩ : BufTy).Contents (Elt F)),
    StableHlo.unary main_v68 main_v146 (broadcastInDim S1x16384x1024 ![1, 2] bcast_S16384x1024_S1x16384x1024_1_2 : (⟨S16384x1024, .f32⟩ : BufTy).Contents (Elt F) → (⟨S1x16384x1024, .f32⟩ : BufTy).Contents (Elt F)),
    StableHlo.unary main_v104 main_v147 (broadcastInDim S1x16384x1024 ![1, 2] bcast_S16384x1024_S1x16384x1024_1_2 : (⟨S16384x1024, .f32⟩ : BufTy).Contents (Elt F) → (⟨S1x16384x1024, .f32⟩ : BufTy).Contents (Elt F)),
    StableHlo.unary main_v140 main_v148 (broadcastInDim S1x16384x1024 ![1, 2] bcast_S16384x1024_S1x16384x1024_1_2 : (⟨S16384x1024, .f32⟩ : BufTy).Contents (Elt F) → (⟨S1x16384x1024, .f32⟩ : BufTy).Contents (Elt F)),
    StableHlo.nary ![main_v145, main_v146, main_v147, main_v148] main_v149 (fun u => (concatenate S4x16384x1024 0 [⟨S1x16384x1024, (u 0 : (⟨S1x16384x1024, .f32⟩ : BufTy).Contents (Elt F))⟩, ⟨S1x16384x1024, (u 1 : (⟨S1x16384x1024, .f32⟩ : BufTy).Contents (Elt F))⟩, ⟨S1x16384x1024, (u 2 : (⟨S1x16384x1024, .f32⟩ : BufTy).Contents (Elt F))⟩, ⟨S1x16384x1024, (u 3 : (⟨S1x16384x1024, .f32⟩ : BufTy).Contents (Elt F))⟩] concatenates_S1x16384x1024_S1x16384x1024_S1x16384x1024_S1x16384x1024_S4x16384x1024_d0 : (⟨S4x16384x1024, .f32⟩ : BufTy).Contents (Elt F))),
    StableHlo.unary main_v33 main_v150 (broadcastInDim S1x16384 ![1] bcast_S16384_S1x16384_1 : (⟨S16384, .i32⟩ : BufTy).Contents (Elt F) → (⟨S1x16384, .i32⟩ : BufTy).Contents (Elt F)),
    StableHlo.unary main_v69 main_v151 (broadcastInDim S1x16384 ![1] bcast_S16384_S1x16384_1 : (⟨S16384, .i32⟩ : BufTy).Contents (Elt F) → (⟨S1x16384, .i32⟩ : BufTy).Contents (Elt F)),
    StableHlo.unary main_v105 main_v152 (broadcastInDim S1x16384 ![1] bcast_S16384_S1x16384_1 : (⟨S16384, .i32⟩ : BufTy).Contents (Elt F) → (⟨S1x16384, .i32⟩ : BufTy).Contents (Elt F)),
    StableHlo.unary main_v141 main_v153 (broadcastInDim S1x16384 ![1] bcast_S16384_S1x16384_1 : (⟨S16384, .i32⟩ : BufTy).Contents (Elt F) → (⟨S1x16384, .i32⟩ : BufTy).Contents (Elt F)),
    StableHlo.nary ![main_v150, main_v151, main_v152, main_v153] main_v154 (fun u => (concatenate S4x16384 0 [⟨S1x16384, (u 0 : (⟨S1x16384, .i32⟩ : BufTy).Contents (Elt F))⟩, ⟨S1x16384, (u 1 : (⟨S1x16384, .i32⟩ : BufTy).Contents (Elt F))⟩, ⟨S1x16384, (u 2 : (⟨S1x16384, .i32⟩ : BufTy).Contents (Elt F))⟩, ⟨S1x16384, (u 3 : (⟨S1x16384, .i32⟩ : BufTy).Contents (Elt F))⟩] concatenates_S1x16384_S1x16384_S1x16384_S1x16384_S4x16384_d0 : (⟨S4x16384, .i32⟩ : BufTy).Contents (Elt F)))]

/-- The whole program's operations. -/
def allOps : List (Op F) :=
  near0 ++ (step0 ++ (near1 ++ (step1 ++ (near2 ++ (step2 ++ (near3 ++ (step3 ++ opsEnd)))))))

/-- The reference's program is the layers' operations in order, then the stacking. -/
theorem main_seq (d : Dev nD) :
    StableHlo.IsSeq (main (F := F) d) allOps := by
  hlo_seq

end Cert.ReferenceIdeal.Hand

end
-- ==== Proof.RefLayer.lean ====
/- One layer of the reference as functions of whole arrays: the distances of every row to every codebook
   entry, their softmax, the index of the nearest entry, and the entry itself; and what each list of
   operations leaves in its buffers in terms of these functions. -/
module

public import proofs.«01_k».proof.Proof.RefOps
public import Idealize.ShloMosaic.Lib.StableHlo.RunRead

@[expose] public section

set_option maxRecDepth 16384

noncomputable section

namespace Cert.ReferenceIdeal.Hand

open Idealize.ShloMosaic Idealize.SL.Sem Cert.ReferenceIdeal
open Cert.ReferenceIdeal.Facts₀ Cert.ReferenceIdeal.Facts

variable {F : FTy → Type} [FloatOps F]

/-- The distance of every row to every codebook entry: the square root of the clipped squared distance. -/
def dist (r : FVec F S16384x256 .f32) (w : FVec F S1024x256 .f32) : FVec F S16384x1024 .f32 :=
  Host.sqrt (maximumf (broadcastInDim S16384x1024 ![] bcast_S_S16384x1024 (constant S_ .f32 0x2B8CBCCC#32))
    (addf
      (subf
        (broadcastInDim S16384x1024 ![0, 1] bcast_S16384x1_S16384x1024_0_1
          (broadcastInDim S16384x1 ![0] bcast_S16384_S16384x1_0
            (Host.reduceAdd (mulf r r) (constant S_ .f32 0x00000000#32) reducesTo_S16384x256_S16384_d1 h_S_)))
        (mulf (broadcastInDim S16384x1024 ![] bcast_S_S16384x1024 (constant S_ .f32 0x40000000#32))
          (Host.dotGeneral dot_S16384x256_S256x1024_S16384x1024_1_0_0_1_n_n none r
            (transpose S256x1024 [1, 0] w transposes_S1024x256_S256x1024_1_0))))
      (broadcastInDim S16384x1024 ![0, 1] bcast_S1x1024_S16384x1024_0_1
        (broadcastInDim S1x1024 ![1] bcast_S1024_S1x1024_1
          (Host.reduceAdd (mulf w w) (constant S_ .f32 0x00000000#32) reducesTo_S1024x256_S1024_d1 h_S_)))))

/-- The scores: minus the distance over the temperature. -/
def score (d : FVec F S16384x1024 .f32) : FVec F S16384x1024 .f32 :=
  Host.divf (Host.negf d) (broadcastInDim S16384x1024 ![] bcast_S_S16384x1024 (constant S_ .f32 0x3F000000#32))

/-- The exponentials of the scores less their row's greatest. -/
def expo (d : FVec F S16384x1024 .f32) : FVec F S16384x1024 .f32 :=
  Host.exp (subf (score d)
    (broadcastInDim S16384x1024 ![0, 1] bcast_S16384x1_S16384x1024_0_1
      (broadcastInDim S16384x1 ![0] bcast_S16384_S16384x1_0
        (maximumf (broadcastInDim S16384 ![] bcast_S_S16384 (constant S_ .f32 0xFF800000#32))
          (Host.reduce FloatOps.maximumf (score d) (constant S_ .f32 0xFF800000#32)
            reducesTo_S16384x1024_S16384_d1 h_S_)))))

/-- The softmax of the scores along a row. -/
def probs (d : FVec F S16384x1024 .f32) : FVec F S16384x1024 .f32 :=
  Host.divf (expo d)
    (broadcastInDim S16384x1024 ![0, 1] bcast_S16384x1_S16384x1024_0_1
      (broadcastInDim S16384x1 ![0] bcast_S16384_S16384x1_0
        (Host.reduceAdd (expo d) (constant S_ .f32 0x00000000#32) reducesTo_S16384x1024_S16384_d1 h_S_)))

/-- The index of each row's least distance. -/
def ids (d : FVec F S16384x1024 .f32) : IVec S16384 32 :=
  fun j => (Host.argReduce reducer_argmin_f32_i32 d (iotaInDim S16384x1024 32 1) (constant S_ .f32 0x7F800000#32)
    (constantI S_ 32 0#32) reducesTo_S16384x1024_S16384_d1 h_S_ j).2

/-- An index counted from the end when negative. -/
def wrapped (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 1024#32))) i)

/-- Whether an index lies inside the table. -/
def inside (i : IVec S16384 32) : IVec S16384 1 :=
  Host.reduce IntOp.andi
    (andi (cmpi .sge (wrapped i) (broadcastInDim S16384x1 ![] bcast_S_S16384x1 (constantI S_ 32 0#32)))
      (cmpi .sle (wrapped i)
        (broadcastInDim S16384x1 ![0, 1] bcast_S1x1_S16384x1_0_1
          (broadcastInDim S1x1 ![1] bcast_S1_S1x1_1 (constantI S1 32 1023#32)))))
    (constantI S_ 1 1#1) reducesTo_S16384x1_S16384_d1 h_S_

/-- The table's rows that an index array names. -/
def take (w : FVec F S1024x256 .f32) (i : IVec S16384 32) : FVec F S16384x256 .f32 :=
  select (broadcastInDim S16384x256 ![0] bcast_S16384_S16384x256_0 (inside i))
    (Host.gather gather_S1024x256_S16384x1_S16384x256_1_0_n_n_0_1_1256 w (wrapped i))
    (broadcastInDim S16384x256 ![] bcast_S_S16384x256 (constant S_ .f32 0x7FC00000#32))

/-- The codebook entry nearest to each row. -/
def pick (r : FVec F S16384x256 .f32) (w : FVec F S1024x256 .f32) : FVec F S16384x256 .f32 :=
  take w (ids (dist r w))

/-- A layer's codebook, cut out of the stack. -/
def book (w : FVec F S4x1024x256 .f32) : ℕ → FVec F S1024x256 .f32
  | 0 => shapeCast S1024x256 (extractStridedSlice S1x1024x256 ![0, 0, 0] w slices_S4x1024x256_S1x1024x256_0_0_0)
      shapeCasts_S1x1024x256_S1024x256
  | 1 => shapeCast S1024x256 (extractStridedSlice S1x1024x256 ![1, 0, 0] w slices_S4x1024x256_S1x1024x256_1_0_0)
      shapeCasts_S1x1024x256_S1024x256
  | 2 => shapeCast S1024x256 (extractStridedSlice S1x1024x256 ![2, 0, 0] w slices_S4x1024x256_S1x1024x256_2_0_0)
      shapeCasts_S1x1024x256_S1024x256
  | _ => shapeCast S1024x256 (extractStridedSlice S1x1024x256 ![3, 0, 0] w slices_S4x1024x256_S1x1024x256_3_0_0)
      shapeCasts_S1x1024x256_S1024x256

/-- The residual before layer `k`. -/
def resid (z : FVec F S16384x256 .f32) (w : FVec F S4x1024x256 .f32) : ℕ → FVec F S16384x256 .f32
  | 0 => z
  | k + 1 => subf (resid z w k) (pick (resid z w k) (book w k))

/-- The array of zeros the sum starts from. -/
def zeros : FVec F S16384x256 .f32 := broadcastInDim S16384x256 ![] bcast_S_S16384x256 (constant S_ .f32 0x00000000#32)

/-- The sum of the entries picked before layer `k`. -/
def total (z : FVec F S16384x256 .f32) (w : FVec F S4x1024x256 .f32) : ℕ → FVec F S16384x256 .f32
  | 0 => zeros
  | k + 1 => addf (total z w k) (pick (resid z w k) (book w k))

/-- Layer `k`'s distances. -/
def dists (z : FVec F S16384x256 .f32) (w : FVec F S4x1024x256 .f32) (k : ℕ) : FVec F S16384x1024 .f32 :=
  dist (resid z w k) (book w k)

/-- The four layers' probabilities stacked. -/
def allProbs (z : FVec F S16384x256 .f32) (w : FVec F S4x1024x256 .f32) : FVec F S4x16384x1024 .f32 :=
  concatenate S4x16384x1024 0
    [⟨S1x16384x1024, broadcastInDim S1x16384x1024 ![1, 2] bcast_S16384x1024_S1x16384x1024_1_2 (probs (dists z w 0))⟩,
     ⟨S1x16384x1024, broadcastInDim S1x16384x1024 ![1, 2] bcast_S16384x1024_S1x16384x1024_1_2 (probs (dists z w 1))⟩,
     ⟨S1x16384x1024, broadcastInDim S1x16384x1024 ![1, 2] bcast_S16384x1024_S1x16384x1024_1_2 (probs (dists z w 2))⟩,
     ⟨S1x16384x1024, broadcastInDim S1x16384x1024 ![1, 2] bcast_S16384x1024_S1x16384x1024_1_2 (probs (dists z w 3))⟩]
    concatenates_S1x16384x1024_S1x16384x1024_S1x16384x1024_S1x16384x1024_S4x16384x1024_d0

/-- The four layers' indices stacked. -/
def allIds (z : FVec F S16384x256 .f32) (w : FVec F S4x1024x256 .f32) : IVec S4x16384 32 :=
  concatenate S4x16384 0
    [⟨S1x16384, broadcastInDim S1x16384 ![1] bcast_S16384_S1x16384_1 (ids (dists z w 0))⟩,
     ⟨S1x16384, broadcastInDim S1x16384 ![1] bcast_S16384_S1x16384_1 (ids (dists z w 1))⟩,
     ⟨S1x16384, broadcastInDim S1x16384 ![1] bcast_S16384_S1x16384_1 (ids (dists z w 2))⟩,
     ⟨S1x16384, broadcastInDim S1x16384 ![1] bcast_S16384_S1x16384_1 (ids (dists z w 3))⟩]
    concatenates_S1x16384_S1x16384_S1x16384_S1x16384_S4x16384_d0

variable (V : Valuation τ sig (Elt F))

/-- The first operations leave the array of zeros. -/
theorem near0_zeros : StableHlo.after near0 V (Proc.devRef .tc main_v0) = zeros := by
  after_reads_simp
  rfl

/-- Layer 0's codebook. -/
theorem near0_book : StableHlo.after near0 V (Proc.devRef .tc main_v2)
    = book (V (Proc.devRef .tc main_arg1)) 0 := by
  after_reads_simp
  rfl

/-- Layer 0 leaves the softmax of the distances. -/
theorem near0_probs : StableHlo.after near0 V (Proc.devRef .tc main_v32)
    = probs (dist (V (Proc.devRef .tc main_arg0)) (book (V (Proc.devRef .tc main_arg1)) 0)) := by
  after_reads_simp
  rfl

/-- Layer 0 leaves the nearest entries' indices. -/
theorem near0_ids : StableHlo.after near0 V (Proc.devRef .tc main_v33)
    = ids (dist (V (Proc.devRef .tc main_arg0)) (book (V (Proc.devRef .tc main_arg1)) 0)) := by
  after_reads_simp
  rfl

/-- Layer 0 adds the nearest entry to the sum. -/
theorem step0_sum : StableHlo.after step0 V (Proc.devRef .tc main_v35)
    = addf (V (Proc.devRef .tc main_v0)) (take (V (Proc.devRef .tc main_v2)) (V (Proc.devRef .tc main_v33))) := by
  after_reads_simp
  simp only [StableHlo.TRef.ofBuf_toBuf]
  unfold take inside wrapped
  refine congrArg _ ?_
  congr 1

/-- Layer 0 takes the nearest entry from the residual. -/
theorem step0_resid : StableHlo.after step0 V (Proc.devRef .tc main_v36)
    = subf (V (Proc.devRef .tc main_arg0)) (take (V (Proc.devRef .tc main_v2)) (V (Proc.devRef .tc main_v33))) := by
  after_reads_simp
  simp only [StableHlo.TRef.ofBuf_toBuf]
  unfold take inside wrapped
  refine congrArg _ ?_
  congr 1

/-- Layer 1's codebook. -/
theorem near1_book : StableHlo.after near1 V (Proc.devRef .tc main_v38)
    = book (V (Proc.devRef .tc main_arg1)) 1 := by
  after_reads_simp
  rfl

/-- Layer 1 leaves the softmax of the distances. -/
theorem near1_probs : StableHlo.after near1 V (Proc.devRef .tc main_v68)
    = probs (dist (V (Proc.devRef .tc main_v36)) (book (V (Proc.devRef .tc main_arg1)) 1)) := by
  after_reads_simp
  rfl

/-- Layer 1 leaves the nearest entries' indices. -/
theorem near1_ids : StableHlo.after near1 V (Proc.devRef .tc main_v69)
    = ids (dist (V (Proc.devRef .tc main_v36)) (book (V (Proc.devRef .tc main_arg1)) 1)) := by
  after_reads_simp
  rfl

/-- Layer 1 adds the nearest entry to the sum. -/
theorem step1_sum : StableHlo.after step1 V (Proc.devRef .tc main_v71)
    = addf (V (Proc.devRef .tc main_v35)) (take (V (Proc.devRef .tc main_v38)) (V (Proc.devRef .tc main_v69))) := by
  after_reads_simp
  simp only [StableHlo.TRef.ofBuf_toBuf]
  unfold take inside wrapped
  refine congrArg _ ?_
  congr 1

/-- Layer 1 takes the nearest entry from the residual. -/
theorem step1_resid : StableHlo.after step1 V (Proc.devRef .tc main_v72)
    = subf (V (Proc.devRef .tc main_v36)) (take (V (Proc.devRef .tc main_v38)) (V (Proc.devRef .tc main_v69))) := by
  after_reads_simp
  simp only [StableHlo.TRef.ofBuf_toBuf]
  unfold take inside wrapped
  refine congrArg _ ?_
  congr 1

/-- Layer 2's codebook. -/
theorem near2_book : StableHlo.after near2 V (Proc.devRef .tc main_v74)
    = book (V (Proc.devRef .tc main_arg1)) 2 := by
  after_reads_simp
  rfl

/-- Layer 2 leaves the softmax of the distances. -/
theorem near2_probs : StableHlo.after near2 V (Proc.devRef .tc main_v104)
    = probs (dist (V (Proc.devRef .tc main_v72)) (book (V (Proc.devRef .tc main_arg1)) 2)) := by
  after_reads_simp
  rfl

/-- Layer 2 leaves the nearest entries' indices. -/
theorem near2_ids : StableHlo.after near2 V (Proc.devRef .tc main_v105)
    = ids (dist (V (Proc.devRef .tc main_v72)) (book (V (Proc.devRef .tc main_arg1)) 2)) := by
  after_reads_simp
  rfl

/-- Layer 2 adds the nearest entry to the sum. -/
theorem step2_sum : StableHlo.after step2 V (Proc.devRef .tc main_v107)
    = addf (V (Proc.devRef .tc main_v71)) (take (V (Proc.devRef .tc main_v74)) (V (Proc.devRef .tc main_v105))) := by
  after_reads_simp
  simp only [StableHlo.TRef.ofBuf_toBuf]
  unfold take inside wrapped
  refine congrArg _ ?_
  congr 1

/-- Layer 2 takes the nearest entry from the residual. -/
theorem step2_resid : StableHlo.after step2 V (Proc.devRef .tc main_v108)
    = subf (V (Proc.devRef .tc main_v72)) (take (V (Proc.devRef .tc main_v74)) (V (Proc.devRef .tc main_v105))) := by
  after_reads_simp
  simp only [StableHlo.TRef.ofBuf_toBuf]
  unfold take inside wrapped
  refine congrArg _ ?_
  congr 1

/-- Layer 3's codebook. -/
theorem near3_book : StableHlo.after near3 V (Proc.devRef .tc main_v110)
    = book (V (Proc.devRef .tc main_arg1)) 3 := by
  after_reads_simp
  rfl

/-- Layer 3 leaves the softmax of the distances. -/
theorem near3_probs : StableHlo.after near3 V (Proc.devRef .tc main_v140)
    = probs (dist (V (Proc.devRef .tc main_v108)) (book (V (Proc.devRef .tc main_arg1)) 3)) := by
  after_reads_simp
  rfl

/-- Layer 3 leaves the nearest entries' indices. -/
theorem near3_ids : StableHlo.after near3 V (Proc.devRef .tc main_v141)
    = ids (dist (V (Proc.devRef .tc main_v108)) (book (V (Proc.devRef .tc main_arg1)) 3)) := by
  after_reads_simp
  rfl

/-- Layer 3 adds the nearest entry to the sum. -/
theorem step3_sum : StableHlo.after step3 V (Proc.devRef .tc main_v143)
    = addf (V (Proc.devRef .tc main_v107)) (take (V (Proc.devRef .tc main_v110)) (V (Proc.devRef .tc main_v141))) := by
  after_reads_simp
  simp only [StableHlo.TRef.ofBuf_toBuf]
  unfold take inside wrapped
  refine congrArg _ ?_
  congr 1

/-- Layer 3 takes the nearest entry from the residual. -/
theorem step3_resid : StableHlo.after step3 V (Proc.devRef .tc main_v144)
    = subf (V (Proc.devRef .tc main_v108)) (take (V (Proc.devRef .tc main_v110)) (V (Proc.devRef .tc main_v141))) := by
  after_reads_simp
  simp only [StableHlo.TRef.ofBuf_toBuf]
  unfold take inside wrapped
  refine congrArg _ ?_
  congr 1

end Cert.ReferenceIdeal.Hand

end
-- ==== Proof.RefRun.lean ====
/- What the reference ends holding: the run of its operations, read at the three results and the two
   arguments. -/
module

public import proofs.«01_k».proof.Proof.RefLayer
public import Idealize.ShloMosaic.Lib.Pipeline.Frame
public import Idealize.ShloMosaic.Lib.Quiescent

@[expose] public section

set_option maxRecDepth 16384

noncomputable section

namespace Cert.ReferenceIdeal.Hand

open Idealize.ShloMosaic Idealize.SL.Sem Cert.ReferenceIdeal
open Cert.ReferenceIdeal.Facts₀ Cert.ReferenceIdeal.Facts

variable {F : FTy → Type} [FloatOps F]

variable (V : Valuation τ sig (Elt F))

/-- The buffers read later that `near0` leaves as they were. -/
theorem near0_keep (r : Ref sig .tc) (h : r ∈ [main_arg0, main_arg1]) :
    StableHlo.after near0 V (Proc.devRef .tc r) = V (Proc.devRef .tc r) := by
  simp only [List.mem_cons, List.not_mem_nil, or_false] at h
  rcases h with rfl | rfl <;> after_reads_simp

/-- The buffers read later that `step0` leaves as they were. -/
theorem step0_keep (r : Ref sig .tc) (h : r ∈ [main_arg0, main_arg1, main_v32, main_v33]) :
    StableHlo.after step0 V (Proc.devRef .tc r) = V (Proc.devRef .tc r) := by
  simp only [List.mem_cons, List.not_mem_nil, or_false] at h
  rcases h with rfl | rfl | rfl | rfl <;> after_reads_simp

/-- The buffers read later that `near1` leaves as they were. -/
theorem near1_keep (r : Ref sig .tc) (h : r ∈ [main_arg0, main_arg1, main_v32, main_v33, main_v35, main_v36]) :
    StableHlo.after near1 V (Proc.devRef .tc r) = V (Proc.devRef .tc r) := by
  simp only [List.mem_cons, List.not_mem_nil, or_false] at h
  rcases h with rfl | rfl | rfl | rfl | rfl | rfl <;> after_reads_simp

/-- The buffers read later that `step1` leaves as they were. -/
theorem step1_keep (r : Ref sig .tc) (h : r ∈ [main_arg0, main_arg1, main_v32, main_v33, main_v68, main_v69]) :
    StableHlo.after step1 V (Proc.devRef .tc r) = V (Proc.devRef .tc r) := by
  simp only [List.mem_cons, List.not_mem_nil, or_false] at h
  rcases h with rfl | rfl | rfl | rfl | rfl | rfl <;> after_reads_simp

/-- The buffers read later that `near2` leaves as they were. -/
theorem near2_keep (r : Ref sig .tc) (h : r ∈ [main_arg0, main_arg1, main_v32, main_v33, main_v68, main_v69, main_v71, main_v72]) :
    StableHlo.after near2 V (Proc.devRef .tc r) = V (Proc.devRef .tc r) := by
  simp only [List.mem_cons, List.not_mem_nil, or_false] at h
  rcases h with rfl | rfl | rfl | rfl | rfl | rfl | rfl | rfl <;> after_reads_simp

/-- The buffers read later that `step2` leaves as they were. -/
theorem step2_keep (r : Ref sig .tc) (h : r ∈ [main_arg0, main_arg1, main_v32, main_v33, main_v68, main_v69, main_v104, main_v105]) :
    StableHlo.after step2 V (Proc.devRef .tc r) = V (Proc.devRef .tc r) := by
  simp only [List.mem_cons, List.not_mem_nil, or_false] at h
  rcases h with rfl | rfl | rfl | rfl | rfl | rfl | rfl | rfl <;> after_reads_simp

/-- The buffers read later that `near3` leaves as they were. -/
theorem near3_keep (r : Ref sig .tc) (h : r ∈ [main_arg0, main_arg1, main_v32, main_v33, main_v68, main_v69, main_v104, main_v105, main_v107, main_v108]) :
    StableHlo.after near3 V (Proc.devRef .tc r) = V (Proc.devRef .tc r) := by
  simp only [List.mem_cons, List.not_mem_nil, or_false] at h
  rcases h with rfl | rfl | rfl | rfl | rfl | rfl | rfl | rfl | rfl | rfl <;> after_reads_simp

/-- The buffers read later that `step3` leaves as they were. -/
theorem step3_keep (r : Ref sig .tc) (h : r ∈ [main_arg0, main_arg1, main_v32, main_v33, main_v68, main_v69, main_v104, main_v105, main_v140, main_v141]) :
    StableHlo.after step3 V (Proc.devRef .tc r) = V (Proc.devRef .tc r) := by
  simp only [List.mem_cons, List.not_mem_nil, or_false] at h
  rcases h with rfl | rfl | rfl | rfl | rfl | rfl | rfl | rfl | rfl | rfl <;> after_reads_simp

/-- The stacking of the probabilities. -/
theorem opsEnd_probs : StableHlo.after opsEnd V (Proc.devRef .tc main_v149)
    = concatenate S4x16384x1024 0
      [⟨S1x16384x1024, broadcastInDim S1x16384x1024 ![1, 2] bcast_S16384x1024_S1x16384x1024_1_2 (V (Proc.devRef .tc main_v32))⟩,
       ⟨S1x16384x1024, broadcastInDim S1x16384x1024 ![1, 2] bcast_S16384x1024_S1x16384x1024_1_2 (V (Proc.devRef .tc main_v68))⟩,
       ⟨S1x16384x1024, broadcastInDim S1x16384x1024 ![1, 2] bcast_S16384x1024_S1x16384x1024_1_2 (V (Proc.devRef .tc main_v104))⟩,
       ⟨S1x16384x1024, broadcastInDim S1x16384x1024 ![1, 2] bcast_S16384x1024_S1x16384x1024_1_2 (V (Proc.devRef .tc main_v140))⟩]
      concatenates_S1x16384x1024_S1x16384x1024_S1x16384x1024_S1x16384x1024_S4x16384x1024_d0 := by
  after_reads_simp
  rfl

/-- The stacking of the indices. -/
theorem opsEnd_ids : StableHlo.after opsEnd V (Proc.devRef .tc main_v154)
    = concatenate S4x16384 0
      [⟨S1x16384, broadcastInDim S1x16384 ![1] bcast_S16384_S1x16384_1 (V (Proc.devRef .tc main_v33))⟩,
       ⟨S1x16384, broadcastInDim S1x16384 ![1] bcast_S16384_S1x16384_1 (V (Proc.devRef .tc main_v69))⟩,
       ⟨S1x16384, broadcastInDim S1x16384 ![1] bcast_S16384_S1x16384_1 (V (Proc.devRef .tc main_v105))⟩,
       ⟨S1x16384, broadcastInDim S1x16384 ![1] bcast_S16384_S1x16384_1 (V (Proc.devRef .tc main_v141))⟩]
      concatenates_S1x16384_S1x16384_S1x16384_S1x16384_S4x16384_d0 := by
  after_reads_simp
  rfl

/-- The stacking leaves the arguments and the sum as they were. -/
theorem opsEnd_keep (r : Ref sig .tc) (h : r ∈ [main_arg0, main_arg1, main_v143]) :
    StableHlo.after opsEnd V (Proc.devRef .tc r) = V (Proc.devRef .tc r) := by
  simp only [List.mem_cons, List.not_mem_nil, or_false] at h
  rcases h with rfl | rfl | rfl <;> after_reads_simp

/-- The contents after layer 0. -/
def after0 : Valuation τ sig (Elt F) := StableHlo.after step0 (StableHlo.after near0 V)

/-- The contents after layer 1. -/
def after1 : Valuation τ sig (Elt F) := StableHlo.after step1 (StableHlo.after near1 (after0 V))

/-- The contents after layer 2. -/
def after2 : Valuation τ sig (Elt F) := StableHlo.after step2 (StableHlo.after near2 (after1 V))

/-- The contents after layer 3. -/
def after3 : Valuation τ sig (Elt F) := StableHlo.after step3 (StableHlo.after near3 (after2 V))

/-- Layer 0 leaves the arguments as they were. -/
theorem after0_args (r : Ref sig .tc) (h : r ∈ [main_arg0, main_arg1]) :
    after0 V (Proc.devRef .tc r) = V (Proc.devRef .tc r) := by
  have h' : r = main_arg0 ∨ r = main_arg1 := by simpa using h
  rw [after0, step0_keep _ r (by rcases h' with rfl | rfl <;> simp),
    near0_keep _ r (by rcases h' with rfl | rfl <;> simp)]

/-- The residual after layer 0. -/
theorem after0_resid : after0 V (Proc.devRef .tc main_v36)
    = resid (V (Proc.devRef .tc main_arg0)) (V (Proc.devRef .tc main_arg1)) 1 := by
  rw [after0, step0_resid, near0_keep _ main_arg0 (by simp), near0_book, near0_ids]
  rfl

/-- The sum after layer 0. -/
theorem after0_sum : after0 V (Proc.devRef .tc main_v35)
    = total (V (Proc.devRef .tc main_arg0)) (V (Proc.devRef .tc main_arg1)) 1 := by
  rw [after0, step0_sum, near0_zeros, near0_book, near0_ids]
  rfl

/-- Layer 0's probabilities. -/
theorem after0_probs : after0 V (Proc.devRef .tc main_v32)
    = probs (dists (V (Proc.devRef .tc main_arg0)) (V (Proc.devRef .tc main_arg1)) 0) := by
  rw [after0, step0_keep _ main_v32 (by simp), near0_probs]
  rfl

/-- Layer 0's indices. -/
theorem after0_ids : after0 V (Proc.devRef .tc main_v33)
    = ids (dists (V (Proc.devRef .tc main_arg0)) (V (Proc.devRef .tc main_arg1)) 0) := by
  rw [after0, step0_keep _ main_v33 (by simp), near0_ids]
  rfl

/-- Layer 1 leaves the arguments as they were. -/
theorem after1_args (r : Ref sig .tc) (h : r ∈ [main_arg0, main_arg1]) :
    after1 V (Proc.devRef .tc r) = V (Proc.devRef .tc r) := by
  have h' : r = main_arg0 ∨ r = main_arg1 := by simpa using h
  rw [after1, step1_keep _ r (by rcases h' with rfl | rfl <;> simp),
    near1_keep _ r (by rcases h' with rfl | rfl <;> simp), after0_args V r h]

/-- The residual after layer 1. -/
theorem after1_resid : after1 V (Proc.devRef .tc main_v72)
    = resid (V (Proc.devRef .tc main_arg0)) (V (Proc.devRef .tc main_arg1)) 2 := by
  rw [after1, step1_resid, near1_keep _ main_v36 (by simp), near1_book, near1_ids,
    after0_resid, after0_args V main_arg1 (by simp)]
  rfl

/-- The sum after layer 1. -/
theorem after1_sum : after1 V (Proc.devRef .tc main_v71)
    = total (V (Proc.devRef .tc main_arg0)) (V (Proc.devRef .tc main_arg1)) 2 := by
  rw [after1, step1_sum, near1_keep _ main_v35 (by simp), near1_book, near1_ids,
    after0_sum, after0_resid, after0_args V main_arg1 (by simp)]
  rfl

/-- Layer 1's probabilities. -/
theorem after1_probs : after1 V (Proc.devRef .tc main_v68)
    = probs (dists (V (Proc.devRef .tc main_arg0)) (V (Proc.devRef .tc main_arg1)) 1) := by
  rw [after1, step1_keep _ main_v68 (by simp), near1_probs, after0_resid, after0_args V main_arg1 (by simp)]
  rfl

/-- Layer 1's indices. -/
theorem after1_ids : after1 V (Proc.devRef .tc main_v69)
    = ids (dists (V (Proc.devRef .tc main_arg0)) (V (Proc.devRef .tc main_arg1)) 1) := by
  rw [after1, step1_keep _ main_v69 (by simp), near1_ids, after0_resid, after0_args V main_arg1 (by simp)]
  rfl

/-- Layer 1 leaves the earlier layers' probabilities and indices as they were. -/
theorem after1_keep (r : Ref sig .tc) (h : r ∈ [main_v32, main_v33]) :
    after1 V (Proc.devRef .tc r) = after0 V (Proc.devRef .tc r) := by
  have h' := h
  simp only [List.mem_cons, List.not_mem_nil, or_false] at h'
  rw [after1, step1_keep _ r (by rcases h' with rfl | rfl <;> simp),
    near1_keep _ r (by rcases h' with rfl | rfl <;> simp)]

/-- Layer 2 leaves the arguments as they were. -/
theorem after2_args (r : Ref sig .tc) (h : r ∈ [main_arg0, main_arg1]) :
    after2 V (Proc.devRef .tc r) = V (Proc.devRef .tc r) := by
  have h' : r = main_arg0 ∨ r = main_arg1 := by simpa using h
  rw [after2, step2_keep _ r (by rcases h' with rfl | rfl <;> simp),
    near2_keep _ r (by rcases h' with rfl | rfl <;> simp), after1_args V r h]

/-- The residual after layer 2. -/
theorem after2_resid : after2 V (Proc.devRef .tc main_v108)
    = resid (V (Proc.devRef .tc main_arg0)) (V (Proc.devRef .tc main_arg1)) 3 := by
  rw [after2, step2_resid, near2_keep _ main_v72 (by simp), near2_book, near2_ids,
    after1_resid, after1_args V main_arg1 (by simp)]
  rfl

/-- The sum after layer 2. -/
theorem after2_sum : after2 V (Proc.devRef .tc main_v107)
    = total (V (Proc.devRef .tc main_arg0)) (V (Proc.devRef .tc main_arg1)) 3 := by
  rw [after2, step2_sum, near2_keep _ main_v71 (by simp), near2_book, near2_ids,
    after1_sum, after1_resid, after1_args V main_arg1 (by simp)]
  rfl

/-- Layer 2's probabilities. -/
theorem after2_probs : after2 V (Proc.devRef .tc main_v104)
    = probs (dists (V (Proc.devRef .tc main_arg0)) (V (Proc.devRef .tc main_arg1)) 2) := by
  rw [after2, step2_keep _ main_v104 (by simp), near2_probs, after1_resid, after1_args V main_arg1 (by simp)]
  rfl

/-- Layer 2's indices. -/
theorem after2_ids : after2 V (Proc.devRef .tc main_v105)
    = ids (dists (V (Proc.devRef .tc main_arg0)) (V (Proc.devRef .tc main_arg1)) 2) := by
  rw [after2, step2_keep _ main_v105 (by simp), near2_ids, after1_resid, after1_args V main_arg1 (by simp)]
  rfl

/-- Layer 2 leaves the earlier layers' probabilities and indices as they were. -/
theorem after2_keep (r : Ref sig .tc) (h : r ∈ [main_v32, main_v33, main_v68, main_v69]) :
    after2 V (Proc.devRef .tc r) = after1 V (Proc.devRef .tc r) := by
  have h' := h
  simp only [List.mem_cons, List.not_mem_nil, or_false] at h'
  rw [after2, step2_keep _ r (by rcases h' with rfl | rfl | rfl | rfl <;> simp),
    near2_keep _ r (by rcases h' with rfl | rfl | rfl | rfl <;> simp)]

/-- Layer 3 leaves the arguments as they were. -/
theorem after3_args (r : Ref sig .tc) (h : r ∈ [main_arg0, main_arg1]) :
    after3 V (Proc.devRef .tc r) = V (Proc.devRef .tc r) := by
  have h' : r = main_arg0 ∨ r = main_arg1 := by simpa using h
  rw [after3, step3_keep _ r (by rcases h' with rfl | rfl <;> simp),
    near3_keep _ r (by rcases h' with rfl | rfl <;> simp), after2_args V r h]

/-- The residual after layer 3. -/
theorem after3_resid : after3 V (Proc.devRef .tc main_v144)
    = resid (V (Proc.devRef .tc main_arg0)) (V (Proc.devRef .tc main_arg1)) 4 := by
  rw [after3, step3_resid, near3_keep _ main_v108 (by simp), near3_book, near3_ids,
    after2_resid, after2_args V main_arg1 (by simp)]
  rfl

/-- The sum after layer 3. -/
theorem after3_sum : after3 V (Proc.devRef .tc main_v143)
    = total (V (Proc.devRef .tc main_arg0)) (V (Proc.devRef .tc main_arg1)) 4 := by
  rw [after3, step3_sum, near3_keep _ main_v107 (by simp), near3_book, near3_ids,
    after2_sum, after2_resid, after2_args V main_arg1 (by simp)]
  rfl

/-- Layer 3's probabilities. -/
theorem after3_probs : after3 V (Proc.devRef .tc main_v140)
    = probs (dists (V (Proc.devRef .tc main_arg0)) (V (Proc.devRef .tc main_arg1)) 3) := by
  rw [after3, step3_keep _ main_v140 (by simp), near3_probs, after2_resid, after2_args V main_arg1 (by simp)]
  rfl

/-- Layer 3's indices. -/
theorem after3_ids : after3 V (Proc.devRef .tc main_v141)
    = ids (dists (V (Proc.devRef .tc main_arg0)) (V (Proc.devRef .tc main_arg1)) 3) := by
  rw [after3, step3_keep _ main_v141 (by simp), near3_ids, after2_resid, after2_args V main_arg1 (by simp)]
  rfl

/-- Layer 3 leaves the earlier layers' probabilities and indices as they were. -/
theorem after3_keep (r : Ref sig .tc) (h : r ∈ [main_v32, main_v33, main_v68, main_v69, main_v104, main_v105]) :
    after3 V (Proc.devRef .tc r) = after2 V (Proc.devRef .tc r) := by
  have h' := h
  simp only [List.mem_cons, List.not_mem_nil, or_false] at h'
  rw [after3, step3_keep _ r (by rcases h' with rfl | rfl | rfl | rfl | rfl | rfl <;> simp),
    near3_keep _ r (by rcases h' with rfl | rfl | rfl | rfl | rfl | rfl <;> simp)]

/-- The whole program's contents are the stacking's after the four layers'. -/
theorem after_all : StableHlo.after allOps V = StableHlo.after opsEnd (after3 V) := by
  unfold allOps after3 after2 after1 after0
  simp only [StableHlo.after_append]

/-- The first result: the sum of the picked entries. -/
theorem all_sum : StableHlo.after allOps V (Proc.devRef .tc main_v143)
    = total (V (Proc.devRef .tc main_arg0)) (V (Proc.devRef .tc main_arg1)) 4 := by
  rw [after_all, opsEnd_keep _ main_v143 (by simp), after3_sum]

/-- The second result: the stacked probabilities. -/
theorem all_probs : StableHlo.after allOps V (Proc.devRef .tc main_v149)
    = allProbs (V (Proc.devRef .tc main_arg0)) (V (Proc.devRef .tc main_arg1)) := by
  rw [after_all, opsEnd_probs, after3_probs, after3_keep _ main_v32 (by simp), after3_keep _ main_v68 (by simp),
    after3_keep _ main_v104 (by simp), after2_probs, after2_keep _ main_v32 (by simp), after2_keep _ main_v68 (by simp),
    after1_probs, after1_keep _ main_v32 (by simp), after0_probs]
  rfl

/-- The third result: the stacked indices. -/
theorem all_ids : StableHlo.after allOps V (Proc.devRef .tc main_v154)
    = allIds (V (Proc.devRef .tc main_arg0)) (V (Proc.devRef .tc main_arg1)) := by
  rw [after_all, opsEnd_ids, after3_ids, after3_keep _ main_v33 (by simp), after3_keep _ main_v69 (by simp),
    after3_keep _ main_v105 (by simp), after2_ids, after2_keep _ main_v33 (by simp), after2_keep _ main_v69 (by simp),
    after1_ids, after1_keep _ main_v33 (by simp), after0_ids]
  rfl

/-- The arguments end as they were. -/
theorem all_args (r : Ref sig .tc) (h : r ∈ [main_arg0, main_arg1]) :
    StableHlo.after allOps V (Proc.devRef .tc r) = V (Proc.devRef .tc r) := by
  have h' : r = main_arg0 ∨ r = main_arg1 := by simpa using h
  rw [after_all, opsEnd_keep _ r (by rcases h' with rfl | rfl <;> simp), after3_args V r h]

/-- Every operation works on the device's own buffers. -/
theorem allOps_bufs : (allOps (F := F)).Forall fun op => op.bufs ⊆ StableHlo.tcRefs τ sig := by
  simp [allOps, near0, near1, near2, near3, step0, step1, step2, step3, opsEnd, clipOps, argminOps, takeOps, whereOps]

/-- No operation draws a fresh buffer. -/
theorem allOps_fresh : ∀ op ∈ allOps (F := F), op.fresh = ∅ := by
  intro op h
  simp only [allOps, near0, near1, near2, near3, step0, step1, step2, step3, opsEnd, clipOps, argminOps, takeOps, whereOps,
    List.cons_append, List.nil_append] at h
  (repeat (cases h with | head => rfl | tail _ h => ?_)); exact nomatch h

/-- The reference's run from any launch memory: the three results as functions of the arguments, the
    arguments as they were, and every counter at zero. -/
theorem run (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_v143)
          = total (m ((c.tc : Thread nD τ).loc main_arg0)) (m ((c.tc : Thread nD τ).loc main_arg1)) 4
      ∧ r.2.mem ((c.tc : Thread nD τ).loc main_v149)
          = allProbs (m ((c.tc : Thread nD τ).loc main_arg0)) (m ((c.tc : Thread nD τ).loc main_arg1))
      ∧ r.2.mem ((c.tc : Thread nD τ).loc main_v154)
          = allIds (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine θ_run_mono (StableHlo.run_hlo _ _ (fun d => main_seq d) (by decide) (by decide) allOps_bufs allOps_fresh m g) ?_
  intro r hr
  refine ⟨fun c => ⟨(hr c _).trans (all_sum _), (hr c _).trans (all_probs _), (hr c _).trans (all_ids _),
    (hr c _).trans (all_args _ _ (by simp)), (hr c _).trans (all_args _ _ (by simp))⟩, sem_eq_zero_of_no_sems (by decide) _⟩

end Cert.ReferenceIdeal.Hand

end
-- ==== Proof.PreFacts.lean ====
/- The shape relations that the stated condition on the arguments takes, and what the condition says
   of the two argument arrays read element by element. -/
module

public import proofs.«01_k».proof.Pre_finite_arguments
public import Idealize.ShloMosaic.PureOps.Ideal

@[expose] public section

namespace Cert.Pre_finite_arguments

open Idealize.ShloMosaic

/-- Every shape relation the condition's operations take holds. -/
theorem facts : Facts where
  bcast_S_S16384x256 := by decide
  reducesTo_S16384x256_S_d0_1 := by decide
  h_S_ := by decide
  bcast_S_S4x1024x256 := by decide
  reducesTo_S4x1024x256_S_d0_1_2 := by decide

end Cert.Pre_finite_arguments

end
-- ==== Proof.Row.lean ====
/- One row of the problem over the extended reals: its distances to a codebook's entries, the index of the
   nearest one, the softmax of the scores in the kernel's form and in the reference's, and the chain of
   residuals over the layers; with the facts about finite rows that the two forms need. -/
module

public import Idealize.ShloMosaic.PureOps.Ideal
public import Idealize.ShloMosaic.PureOps.Ideal.Laws
public import Mathlib.Data.Finset.Fold
public import Mathlib.Data.EReal.Operations

@[expose] public section

noncomputable section

namespace Cert.Row

open Idealize.ShloMosaic

/-! ### The constants -/

/-- The factor of the cross term. -/
abbrev two : EReal := Ideal.ofBits .f32 0x40000000#32
/-- The floor of the squared distances. -/
abbrev eps : EReal := Ideal.ofBits .f32 0x2B8CBCCC#32
/-- The kernel's factor from distance to score. -/
abbrev negTwo : EReal := Ideal.ofBits .f32 0xC0000000#32
/-- The reference's temperature. -/
abbrev half : EReal := Ideal.ofBits .f32 0x3F000000#32
/-- The kernel's numerator of the reciprocal. -/
abbrev one : EReal := Ideal.ofBits .f32 0x3F800000#32

/-- The word the programs write for two. -/
theorem two_eq : two = ((2 : ℝ) : EReal) := by
  simp [Ideal.ofBits, Ideal.ieee, -EReal.coe_mul]; norm_num

/-- The word the programs write for minus two. -/
theorem negTwo_eq : negTwo = ((-2 : ℝ) : EReal) := by
  simp [Ideal.ofBits, Ideal.ieee, -EReal.coe_mul]; norm_num

/-- The word the programs write for one half. -/
theorem half_eq : half = ((1 / 2 : ℝ) : EReal) := by
  simp [Ideal.ofBits, Ideal.ieee, -EReal.coe_mul]; norm_num

/-- The word the programs write for one. -/
theorem one_eq : one = ((1 : ℝ) : EReal) := by
  simp [Ideal.ofBits, Ideal.ieee, -EReal.coe_mul]; norm_num

/-- The floor is a positive real. -/
theorem eps_pos : ∃ e : ℝ, 0 < e ∧ eps = (e : EReal) := by
  refine ⟨(2 ^ 23 + 0x0CBCCC : Nat) * (2 : ℝ) ^ ((87 : Int) - 127 - 23), by positivity, ?_⟩
  simp [Ideal.ofBits, Ideal.ieee, -EReal.coe_mul]

/-- The word for plus infinity. -/
theorem posInf_eq : Ideal.ofBits .f32 0x7F800000#32 = ⊤ := by
  simp [Ideal.ofBits, Ideal.ieee]

/-- The word for minus infinity. -/
theorem negInf_eq : Ideal.ofBits .f32 0xFF800000#32 = ⊥ := by
  simp [Ideal.ofBits, Ideal.ieee]

/-! ### Finite values -/

/-- An extended real that is a real. -/
def IsReal (x : EReal) : Prop := ∃ a : ℝ, x = (a : EReal)

/-- A real number is real. -/
theorem IsReal.coe (a : ℝ) : IsReal (a : EReal) := ⟨a, rfl⟩

/-- Sums of reals are real. -/
theorem IsReal.add {x y : EReal} (hx : IsReal x) (hy : IsReal y) : IsReal (x + y) := by
  obtain ⟨a, rfl⟩ := hx; obtain ⟨b, rfl⟩ := hy; exact ⟨a + b, by norm_cast⟩

/-- Differences of reals are real. -/
theorem IsReal.sub {x y : EReal} (hx : IsReal x) (hy : IsReal y) : IsReal (x - y) := by
  obtain ⟨a, rfl⟩ := hx; obtain ⟨b, rfl⟩ := hy; exact ⟨a - b, by norm_cast⟩

/-- Products of reals are real. -/
theorem IsReal.mul {x y : EReal} (hx : IsReal x) (hy : IsReal y) : IsReal (x * y) := by
  obtain ⟨a, rfl⟩ := hx; obtain ⟨b, rfl⟩ := hy; exact ⟨a * b, by norm_cast⟩

/-- Finite sums of reals are real. -/
theorem IsReal.sum {ι : Type*} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

/-- A real taken from itself leaves zero. -/
theorem IsReal.sub_self {x : EReal} (hx : IsReal x) : x - x = 0 := by
  obtain ⟨a, rfl⟩ := hx; norm_cast; simp

/-- A value whose magnitude is below infinity is a real. -/
theorem isReal_of_abs_lt {x : EReal} (h : max x (-x) < ⊤) : IsReal x := by
  induction x using EReal.rec with
  | bot => simp at h
  | coe a => exact ⟨a, rfl⟩
  | top => simp at h

/-! ### The distances -/

/-- The distance of row `r` to entry `j` of the codebook `w`. -/
def dist (r : Fin 256 → EReal) (w : Fin 1024 → Fin 256 → EReal) (j : Fin 1024) : EReal :=
  Ideal.sqrt (max (((∑ i, r i * r i) - two * ∑ i, r i * w j i) + ∑ i, w j i * w j i) eps)

/-- A finite row's distances to finite entries are reals. -/
theorem dist_isReal {r : Fin 256 → EReal} {w : Fin 1024 → Fin 256 → EReal} (hr : ∀ i, IsReal (r i))
    (hw : ∀ j i, IsReal (w j i)) (j : Fin 1024) : IsReal (dist r w j) := by
  have h : IsReal (((∑ i, r i * r i) - two * ∑ i, r i * w j i) + ∑ i, w j i * w j i) :=
    ((IsReal.sum _ fun i => (hr i).mul (hr i)).sub
      (IsReal.mul ⟨2, two_eq⟩ (IsReal.sum _ fun i => (hr i).mul (hw j i)))).add
      (IsReal.sum _ fun i => (hw j i).mul (hw j i))
  obtain ⟨a, ha⟩ := h
  obtain ⟨e, he, hee⟩ := eps_pos
  rw [dist, ha, hee]
  have : max (a : EReal) (e : EReal) = ((max a e : ℝ) : EReal) := (EReal.coe_strictMono.monotone.map_max).symm
  rw [this, Ideal.sqrt_coe, if_neg (not_lt.mpr (he.le.trans (le_max_right a e)))]
  exact ⟨_, rfl⟩

/-! ### The nearest entry -/

/-- `j` is the first index at which `d` is least. -/
def IsNear (d : Fin 1024 → EReal) (j : Fin 1024) : Prop := (∀ i, d j ≤ d i) ∧ ∀ i, i < j → d j < d i

/-- A row has at most one first least index. -/
theorem IsNear.unique {d : Fin 1024 → EReal} {j j' : Fin 1024} (h : IsNear d j) (h' : IsNear d j') : j = j' := by
  rcases lt_trichotomy j j' with hlt | heq | hgt
  · exact absurd (h'.2 j hlt) (not_lt.mpr (h.1 j'))
  · exact heq
  · exact absurd (h.2 j' hgt) (not_lt.mpr (h'.1 j))

/-- A row has a first least index. -/
theorem exists_isNear (d : Fin 1024 → EReal) : ∃ j, IsNear d j := by
  obtain ⟨a, ha⟩ := Finite.exists_min d
  obtain ⟨j, hj, hmin⟩ := WellFounded.has_min (wellFounded_lt (α := Fin 1024)) {j | ∀ i, d j ≤ d i} ⟨a, ha⟩
  refine ⟨j, hj, fun i hi => ?_⟩
  by_contra hle
  exact hmin i (fun k => (not_lt.mp hle).trans (hj k)) hi

/-- The first index at which `d` is least. -/
def near (d : Fin 1024 → EReal) : Fin 1024 := (exists_isNear d).choose

/-- The chosen index is a first least index. -/
theorem near_spec (d : Fin 1024 → EReal) : IsNear d (near d) := (exists_isNear d).choose_spec

/-- A first least index is the chosen one. -/
theorem IsNear.eq_near {d : Fin 1024 → EReal} {j : Fin 1024} (h : IsNear d j) : j = near d := h.unique (near_spec d)

/-- The fold of minima from the top is the value at the first least index. -/
theorem fold_min (d : Fin 1024 → EReal) : Finset.univ.fold min (⊤ : EReal) d = d (near d) := by
  apply le_antisymm
  · exact (Finset.fold_min_le _).mpr (Or.inr ⟨near d, Finset.mem_univ _, le_rfl⟩)
  · exact Finset.le_fold_min _ |>.mpr ⟨le_top, fun i _ => (near_spec d).1 i⟩

/-! ### The softmax -/

/-- The kernel's softmax of a row of distances. -/
def probK (d : Fin 1024 → EReal) (j : Fin 1024) : EReal :=
  Ideal.exp (d j * negTwo - d (near d) * negTwo)
    * Ideal.div one (∑ i, Ideal.exp (d i * negTwo - d (near d) * negTwo))

/-- The reference's score of a distance. -/
def score (d : Fin 1024 → EReal) (j : Fin 1024) : EReal := Ideal.div (-(d j)) half

/-- The reference's softmax of a row of distances. -/
def probR (d : Fin 1024 → EReal) (j : Fin 1024) : EReal :=
  Ideal.div (Ideal.exp (score d j - Finset.univ.fold max (⊥ : EReal) (score d)))
    (∑ i, Ideal.exp (score d i - Finset.univ.fold max (⊥ : EReal) (score d)))

/-- The score of a real distance is minus twice it. -/
theorem score_coe {d : Fin 1024 → EReal} {j : Fin 1024} {a : ℝ} (h : d j = (a : EReal)) :
    score d j = ((a * -2 : ℝ) : EReal) := by
  rw [score, h, half_eq, Ideal.div_coe (by norm_num)]
  norm_cast
  norm_num

/-- At real distances the two softmaxes agree. -/
theorem probK_eq_probR {d : Fin 1024 → EReal} (hd : ∀ j, IsReal (d j)) (j : Fin 1024) : probK d j = probR d j := by
  choose x hx using hd
  have hs : ∀ i, score d i = ((x i * -2 : ℝ) : EReal) := fun i => score_coe (hx i)
  have hmul : ∀ i, d i * negTwo = ((x i * -2 : ℝ) : EReal) := fun i => by
    rw [hx i, negTwo_eq]; norm_cast
  have hle : ∀ i, x (near d) ≤ x i := fun i => by
    have := (near_spec d).1 i
    rw [hx, hx] at this
    exact_mod_cast this
  have hmax : Finset.univ.fold max (⊥ : EReal) (score d) = ((x (near d) * -2 : ℝ) : EReal) := by
    apply le_antisymm
    · refine (Finset.fold_max_le _).mpr ⟨bot_le, fun i _ => ?_⟩
      rw [hs i]
      exact EReal.coe_le_coe_iff.mpr (by have := hle i; linarith)
    · exact (Finset.le_fold_max _).mpr (Or.inr ⟨near d, Finset.mem_univ _, (hs _).ge⟩)
  have he : ∀ i, Ideal.exp (((x i * -2 : ℝ) : EReal) - ((x (near d) * -2 : ℝ) : EReal))
      = ((Real.exp (x i * -2 - x (near d) * -2) : ℝ) : EReal) := fun i => by
    rw [← EReal.coe_sub, Ideal.exp_coe]
  rw [probK, probR, hmax]
  simp only [hs, hmul, he]
  have hsum : (∑ i, ((Real.exp (x i * -2 - x (near d) * -2) : ℝ) : EReal))
      = ((∑ i, Real.exp (x i * -2 - x (near d) * -2) : ℝ) : EReal) :=
    (map_sum (⟨⟨fun a : ℝ => (a : EReal), EReal.coe_zero⟩, EReal.coe_add⟩ : ℝ →+ EReal) _ _).symm
  have hpos : (∑ i, Real.exp (x i * -2 - x (near d) * -2)) ≠ 0 :=
    (Finset.sum_pos (fun i _ => Real.exp_pos _) ⟨j, Finset.mem_univ _⟩).ne'
  rw [hsum, Ideal.div_coe hpos, Ideal.div_coe hpos, one_eq]
  simp

/-! ### The layers -/

/-- The row's residual before layer `k`. -/
def resid (r : Fin 256 → EReal) (W : ℕ → Fin 1024 → Fin 256 → EReal) : ℕ → Fin 256 → EReal
  | 0 => r
  | k + 1 => fun c => resid r W k c - W k (near (dist (resid r W k) (W k))) c

/-- The row's distances at layer `k`. -/
def dists (r : Fin 256 → EReal) (W : ℕ → Fin 1024 → Fin 256 → EReal) (k : ℕ) : Fin 1024 → EReal :=
  dist (resid r W k) (W k)

/-- The sum of the entries picked for the row before layer `k`. -/
def total (r : Fin 256 → EReal) (W : ℕ → Fin 1024 → Fin 256 → EReal) : ℕ → Fin 256 → EReal
  | 0 => fun _ => 0
  | k + 1 => fun c => total r W k c + W k (near (dists r W k)) c

/-- A finite row's residuals stay finite when the codebooks are. -/
theorem resid_isReal {r : Fin 256 → EReal} {W : ℕ → Fin 1024 → Fin 256 → EReal} (hr : ∀ i, IsReal (r i))
    (hW : ∀ k j i, IsReal (W k j i)) : ∀ k i, IsReal (resid r W k i)
  | 0, i => hr i
  | k + 1, i => (resid_isReal hr hW k i).sub (hW k _ i)

/-- A finite row's distances are reals at every layer. -/
theorem dists_isReal {r : Fin 256 → EReal} {W : ℕ → Fin 1024 → Fin 256 → EReal} (hr : ∀ i, IsReal (r i))
    (hW : ∀ k j i, IsReal (W k j i)) (k : ℕ) (j : Fin 1024) : IsReal (dists r W k j) :=
  dist_isReal (resid_isReal hr hW k) (hW k) j

/-- A column number read as a signed word is itself. -/
theorem toInt_index (k : Fin 1024) : (BitVec.ofNat 32 k.val).toInt = k.val := by
  have := k.isLt
  rw [BitVec.toInt_eq_toNat_of_lt] <;> rw [BitVec.toNat_ofNat] <;> omega

/-- The number of a layer, among the four. -/
def layer : ℕ → Fin 4
  | 0 => 0
  | 1 => 1
  | 2 => 2
  | _ => 3

end Cert.Row

end
-- ==== Proof.PreReal.lean ====
/- The condition on the arguments, read element by element: every entry of both arrays is a real number. -/
module

public import proofs.«01_k».proof.Proof.PreFacts
public import proofs.«01_k».proof.Proof.Row
public import Idealize.ShloMosaic.Lib.ReduceAll
public import Idealize.ShloMosaic.Lib.Pointwise
public import Idealize.ShloMosaic.Lib.Affine

@[expose] public section

namespace Cert.Pre_finite_arguments

open Idealize.ShloMosaic
open Facts

/-- An entry whose magnitude is below infinity is a real number. -/
theorem isReal_of_below {s : Shape} (h : S_.BroadcastsInDim s (![] : Fin 0 → Fin s.rank)) (x : FVec Ideal s .f32) (i : s.Idx)
    (hi : cmpf .olt (Host.absf x) (broadcastInDim s ![] h (constant S_ .f32 0x7F800000#32)) i = 1#1) :
    Row.IsReal (x i) := by
  refine Row.isReal_of_abs_lt ?_
  change Ideal.cmp .olt (max (x i) (-(x i))) (Ideal.ofBits .f32 0x7F800000#32) = 1#1 at hi
  rw [Row.posInf_eq] at hi
  by_contra hn
  simp [Ideal.cmp, hn] at hi

/-- Under the condition every entry of both arrays is a real number. -/
theorem isReal [Facts] {z : FVec Ideal S16384x256 .f32} {w : FVec Ideal S4x1024x256 .f32}
    (h : fn (F := Ideal) z w = fun _ => 1#1) : (∀ i, Row.IsReal (z i)) ∧ ∀ i, Row.IsReal (w i) := by
  have h0 := congrFun h (Shape.Idx.first h_S_)
  dsimp only [fn] at h0
  have h1 : IntOp.andi _ _ = 1#1 := h0
  obtain ⟨ha, hb⟩ := IntOp.andi_eq_one.mp h1
  exact ⟨fun i => isReal_of_below _ z i (Host.reduce_andi_all _ _ _ _ _ ha i),
    fun i => isReal_of_below _ w i (Host.reduce_andi_all _ _ _ _ _ hb i)⟩

end Cert.Pre_finite_arguments

end
-- ==== Proof.KernelLayer.lean ====
/- One layer of the kernel's body as functions of one block of rows: the distances, their softmax, the index
   of the nearest entry and the entry itself; the body's stored values are these functions chained over the
   four layers. -/
module

public import proofs.«01_k».proof.Proof.Gen.KernelIdeal.Frame

@[expose] public section

set_option maxRecDepth 16384

noncomputable section

namespace Cert.KernelIdeal.Hand

open Idealize.ShloMosaic Idealize.SL.Sem Cert.KernelIdeal Cert.KernelIdeal.Gen

variable {F : FTy → Type} [FloatOps F]

/-- The column numbers of a block of distances. -/
def cols : IVec S512x1024 32 := iota .tc S512x1024 32 [1] iota_S512x1024_d1_w32

/-- The two halves of each row added. -/
def halves (v : FVec F S512x256 .f32) : FVec F S512x128 .f32 :=
  addf (extractStridedSlice S512x128 ![0, 0] v slices_S512x256_o0_0_S512x128)
    (extractStridedSlice S512x128 ![0, 128] v slices_S512x256_o0_128_S512x128)

/-- The first eight groups of eight columns added, in order. -/
def groupsLow (v : FVec F S512x128 .f32) : FVec F S512x8 .f32 :=
  addf (addf (addf (addf (addf (addf (addf
    (extractStridedSlice S512x8 ![0, 0] v slices_S512x128_o0_0_S512x8)
    (extractStridedSlice S512x8 ![0, 8] v slices_S512x128_o0_8_S512x8))
    (extractStridedSlice S512x8 ![0, 16] v slices_S512x128_o0_16_S512x8))
    (extractStridedSlice S512x8 ![0, 24] v slices_S512x128_o0_24_S512x8))
    (extractStridedSlice S512x8 ![0, 32] v slices_S512x128_o0_32_S512x8))
    (extractStridedSlice S512x8 ![0, 40] v slices_S512x128_o0_40_S512x8))
    (extractStridedSlice S512x8 ![0, 48] v slices_S512x128_o0_48_S512x8))
    (extractStridedSlice S512x8 ![0, 56] v slices_S512x128_o0_56_S512x8)

/-- The sixteen groups of eight columns added, in order. -/
def groups (v : FVec F S512x128 .f32) : FVec F S512x8 .f32 :=
  addf (addf (addf (addf (addf (addf (addf (addf (groupsLow v)
    (extractStridedSlice S512x8 ![0, 64] v slices_S512x128_o0_64_S512x8))
    (extractStridedSlice S512x8 ![0, 72] v slices_S512x128_o0_72_S512x8))
    (extractStridedSlice S512x8 ![0, 80] v slices_S512x128_o0_80_S512x8))
    (extractStridedSlice S512x8 ![0, 88] v slices_S512x128_o0_88_S512x8))
    (extractStridedSlice S512x8 ![0, 96] v slices_S512x128_o0_96_S512x8))
    (extractStridedSlice S512x8 ![0, 104] v slices_S512x128_o0_104_S512x8))
    (extractStridedSlice S512x8 ![0, 112] v slices_S512x128_o0_112_S512x8))
    (extractStridedSlice S512x8 ![0, 120] v slices_S512x128_o0_120_S512x8)

/-- Eight columns added by halving three times. -/
def fold8 (v : FVec F S512x8 .f32) : FVec F S512x1 .f32 :=
  have a : FVec F S512x4 .f32 := addf (extractStridedSlice S512x4 ![0, 0] v slices_S512x8_o0_0_S512x4)
    (extractStridedSlice S512x4 ![0, 4] v slices_S512x8_o0_4_S512x4)
  have b : FVec F S512x2 .f32 := addf (extractStridedSlice S512x2 ![0, 0] a slices_S512x4_o0_0_S512x2)
    (extractStridedSlice S512x2 ![0, 2] a slices_S512x4_o0_2_S512x2)
  addf (extractStridedSlice S512x1 ![0, 0] b slices_S512x2_o0_0_S512x1)
    (extractStridedSlice S512x1 ![0, 1] b slices_S512x2_o0_1_S512x1)

/-- Each row's sum of squares. -/
def rowSq (r : FVec F S512x256 .f32) : FVec F S512x1 .f32 := fold8 (groups (halves (mulf r r)))

/-- The distance of each row of a block to each entry of a layer's codebook `c`, whose entries' sums of
    squares are `q`. -/
def dist (r : FVec F S512x256 .f32) (c : FVec F S1x1024x256 .f32) (q : FVec F S1x1024 .f32) : FVec F S512x1024 .f32 :=
  sqrt (maximumf
    (addf
      (subf (broadcastTo S512x1024 (rowSq r) broadcasts_S512x1_S512x1024)
        (mulf (broadcast S512x1024 (Scalar.ofBits .f32 0x40000000#32))
          (matmul dot_S512x256_S1024x256_S512x1024_1_1_0_0_n_n none r
            (shapeCast S1024x256 c shapeCasts_S1x1024x256_S1024x256) (constant S512x1024 .f32 0x00000000#32))))
      (broadcastTo S512x1024 (shapeCast S1x1024 q shapeCasts_S1x1024_S1x1024) broadcasts_S1x1024_S512x1024))
    (broadcast S512x1024 (Scalar.ofBits .f32 0x2B8CBCCC#32)))

/-- Each row's least distance. -/
def least (d : FVec F S512x1024 .f32) : FVec F S512x1 .f32 :=
  shapeCast S512x1 (multiReduction .minimumf [1] S512 d 0x7F800000#32 reduces_S512x1024_S512 (.inl rfl) rfl)
    shapeCasts_S512_S512x1

/-- The exponentials of the scores less their row's greatest. -/
def expo (d : FVec F S512x1024 .f32) : FVec F S512x1024 .f32 :=
  exp (subf (mulf d (broadcast S512x1024 (Scalar.ofBits .f32 0xC0000000#32)))
    (broadcastTo S512x1024 (mulf (least d) (broadcast S512x1 (Scalar.ofBits .f32 0xC0000000#32)))
      broadcasts_S512x1_S512x1024))

/-- The softmax of the scores along a row. -/
def probs (d : FVec F S512x1024 .f32) : FVec F S1x512x1024 .f32 :=
  shapeCast S1x512x1024
    (mulf (expo d)
      (broadcastTo S512x1024
        (divf (broadcast S512x1 (Scalar.ofBits .f32 0x3F800000#32))
          (shapeCast S512x1 (multiReduction .add [1] S512 (expo d) 0x00000000#32 reduces_S512x1024_S512 (.inl rfl) rfl)
            shapeCasts_S512_S512x1))
        broadcasts_S512x1_S512x1024))
    shapeCasts_S512x1024_S1x512x1024

/-- The least column number at which a row's distance is the row's least. -/
def ids (d : FVec F S512x1024 .f32) : IVec S512 32 :=
  multiReductionI .minsi [1] S512
    (select (cmpf .oeq d (broadcastTo S512x1024 (least d) broadcasts_S512x1_S512x1024)) cols
      (broadcast S512x1024 1024#32))
    2147483647#32 reduces_S512x1024_S512 rfl

/-- One where the column is a row's index, zero elsewhere. -/
def oneHot (i : IVec S512 32) : FVec F S512x1024 .f32 :=
  sitofp .f32 (extui 32 (cmpi .eq cols
    (broadcastTo S512x1024 (shapeCast S512x1 i shapeCasts_S512_S512x1) broadcasts_S512x1_S512x1024)) natLt_1_32)

/-- A selection of rows times a layer's table. -/
def times (o : FVec F S512x1024 .f32) (h : FVec F S1x1024x256 .f32) : FVec F S512x256 .f32 :=
  matmul dot_S512x1024_S1024x256_S512x256_1_0_0_1_n_n none o
    (shapeCast S1024x256 h shapeCasts_S1x1024x256_S1024x256) (constant S512x256 .f32 0x00000000#32)

/-- The entry picked for each row, put together from the three parts of the table. -/
def pick (d : FVec F S512x1024 .f32) (hi mid lo : FVec F S1x1024x256 .f32) : FVec F S512x256 .f32 :=
  addf (addf (times (oneHot (ids d)) hi) (times (oneHot (ids d)) mid)) (times (oneHot (ids d)) lo)

variable (x0 : Vec F S512x256 .f32) (x1 : Vec F S4x1024x256 .f32) (x2 : Vec F S4x1024 .f32)
  (x3 x4 x5 : Vec F S4x1024x256 .f32)

/-- Layer `k` of a stack of tables. -/
def part (x : Vec F S4x1024x256 .f32) : ℕ → FVec F S1x1024x256 .f32
  | 0 => View.ld x r1_1
  | 1 => View.ld x r1_5
  | 2 => View.ld x r1_9
  | _ => View.ld x r1_13

/-- Layer `k` of the stack of sums of squares. -/
def sqs (x : Vec F S4x1024 .f32) : ℕ → FVec F S1x1024 .f32
  | 0 => View.ld x r1_2
  | 1 => View.ld x r1_6
  | 2 => View.ld x r1_10
  | _ => View.ld x r1_14

/-- The block's residual before layer `k`. -/
def resid : ℕ → FVec F S512x256 .f32
  | 0 => View.ld x0 r1_0
  | k + 1 => subf (resid k) (pick (dist (resid k) (part x1 k) (sqs x2 k)) (part x3 k) (part x4 k) (part x5 k))

/-- The block's distances at layer `k`. -/
def dists (k : ℕ) : FVec F S512x1024 .f32 := dist (resid x0 x1 x2 x3 x4 x5 k) (part x1 k) (sqs x2 k)

/-- The sum of the entries picked before layer `k`. -/
def total : ℕ → FVec F S512x256 .f32
  | 0 => broadcast S512x256 (Scalar.ofBits .f32 0x00000000#32)
  | k + 1 => addf (total k) (pick (dists x0 x1 x2 x3 x4 x5 k) (part x3 k) (part x4 k) (part x5 k))

/-! ### The body's values -/

/-- The residual the second layer starts from. -/
theorem resid1 : k1_pay58 x0 x1 x2 x3 x4 x5 = resid x0 x1 x2 x3 x4 x5 1 := rfl

/-- The second layer's distances. -/
theorem dists1 : k1_pay19 (k1_pay58 x0 x1 x2 x3 x4 x5) (k1_pay59 x0 x1 x2 x3 x4 x5) (k1_pay60 x0 x1 x2 x3 x4 x5)
    (k1_pay61 x0 x1 x2 x3 x4 x5) (k1_pay62 x0 x1 x2 x3 x4 x5) (View.ld x2 r1_6) = dists x0 x1 x2 x3 x4 x5 1 := rfl

/-- The residual the third layer starts from. -/
theorem resid2 : k1_pay65 x0 x1 x2 x3 x4 x5 = resid x0 x1 x2 x3 x4 x5 2 := rfl

/-- The third layer's distances. -/
theorem dists2 : k1_pay70 x0 x1 x2 x3 x4 x5 = dists x0 x1 x2 x3 x4 x5 2 := rfl

/-- The block of summed picks the body stores. -/
theorem out_total : out1_6 x0 x1 x2 x3 x4 x5 = View.canon [⟨r1_0, total x0 x1 x2 x3 x4 x5 4⟩] := rfl

/-- The blocks of probabilities the body stores, one for each layer, the last layer's first. -/
theorem out_probs : out1_7 x0 x1 x2 x3 x4 x5 = View.canon
    [⟨r1_15, probs (dists x0 x1 x2 x3 x4 x5 3)⟩, ⟨r1_11, probs (dists x0 x1 x2 x3 x4 x5 2)⟩,
      ⟨r1_7, probs (dists x0 x1 x2 x3 x4 x5 1)⟩, ⟨r1_3, probs (dists x0 x1 x2 x3 x4 x5 0)⟩] := rfl

/-- The rows of indices the body stores, one for each layer, the last layer's first. -/
theorem out_ids : out1_8 x0 x1 x2 x3 x4 x5 = View.canon
    [⟨r1_16, shapeCast S1x512 (ids (dists x0 x1 x2 x3 x4 x5 3)) shapeCasts_S512_S1x512⟩,
      ⟨r1_12, shapeCast S1x512 (ids (dists x0 x1 x2 x3 x4 x5 2)) shapeCasts_S512_S1x512⟩,
      ⟨r1_8, shapeCast S1x512 (ids (dists x0 x1 x2 x3 x4 x5 1)) shapeCasts_S512_S1x512⟩,
      ⟨r1_4, shapeCast S1x512 (ids (dists x0 x1 x2 x3 x4 x5 0)) shapeCasts_S512_S1x512⟩] := rfl

end Cert.KernelIdeal.Hand

end
-- ==== Proof.KernelOps.lean ====
/- One layer of the kernel's body at an index: the row's sum of squares, its distances, their softmax, the
   index of the nearest entry and the entry picked. -/
module

public import proofs.«01_k».proof.Proof.KernelLayer
public import proofs.«01_k».proof.Proof.Row
public import Idealize.ShloMosaic.Lib.Pointwise

@[expose] public section

set_option maxRecDepth 16384

noncomputable section

namespace Cert.KernelIdeal.Hand

open Idealize.ShloMosaic Cert.KernelIdeal Cert.KernelIdeal.Gen

/-- A sum over two equal halves is the sum of the two halves' entries, added in pairs. -/
theorem sum_halves (g : ℕ → EReal) (m : ℕ) :
    ∑ k ∈ Finset.range (m + m), g k = ∑ k ∈ Finset.range m, (g k + g (m + k)) := by
  rw [Finset.sum_range_add, Finset.sum_add_distrib]

/-- A sum over groups of eight is the sum over each of the eight places. -/
theorem sum_groups (g : ℕ → EReal) (m : ℕ) :
    ∑ k ∈ Finset.range (8 * m), g k = ∑ k ∈ Finset.range 8, ∑ i ∈ Finset.range m, g (8 * i + k) := by
  induction m with
  | zero => simp
  | succ m ih =>
    rw [Nat.mul_succ, Finset.sum_range_add, ih, ← Finset.sum_add_distrib]
    exact Finset.sum_congr rfl fun k _ => (Finset.sum_range_succ _ _).symm

/-- The halves at an index. -/
theorem halves_apply (v : FVec Ideal S512x256 .f32) (g : ℕ → EReal) (n : Fin 512)
    (hg : ∀ c : Fin 256, v (ix2 n c) = g c.val) (k : Fin 128) :
    halves v (ix2 n k) = g k.val + g (128 + k.val) := by
  pointwise [halves]
  rw [hg, hg]

/-- The groups at an index. -/
theorem groups_apply (v : FVec Ideal S512x128 .f32) (g : ℕ → EReal) (n : Fin 512)
    (hg : ∀ c : Fin 128, v (ix2 n c) = g c.val) (k : Fin 8) :
    groups v (ix2 n k) = ∑ i ∈ Finset.range 16, g (8 * i + k.val) := by
  pointwise [groups, groupsLow]
  simp only [hg, Finset.sum_range_succ, Finset.sum_range_zero]
  simp

/-- The last eight columns at an index. -/
theorem fold8_apply (v : FVec Ideal S512x8 .f32) (g : ℕ → EReal) (n : Fin 512)
    (hg : ∀ c : Fin 8, v (ix2 n c) = g c.val) :
    fold8 v (ix2 n 0) = ∑ k ∈ Finset.range 8, g k := by
  pointwise [fold8]
  simp only [hg, Finset.sum_range_succ, Finset.sum_range_zero]
  simp
  ac_rfl

/-- The sum of squares of a row. -/
theorem rowSq_apply (r : FVec Ideal S512x256 .f32) (n : Fin 512) :
    rowSq r (ix2 n 0) = ∑ c : Fin 256, r (ix2 n c) * r (ix2 n c) := by
  set g : ℕ → EReal := fun k => if h : k < 256 then r (ix2 n ⟨k, h⟩) * r (ix2 n ⟨k, h⟩) else 0 with hgdef
  have hg : ∀ c : Fin 256, (mulf r r : FVec Ideal S512x256 .f32) (ix2 n c) = g c.val := fun c => by
    rw [hgdef]; simp [c.isLt]; rfl
  have h1 := halves_apply (mulf r r) g n hg
  have h2 := groups_apply (halves (mulf r r)) (fun k => g k + g (128 + k)) n h1
  have h3 := fold8_apply (groups (halves (mulf r r)))
    (fun k => ∑ i ∈ Finset.range 16, (g (8 * i + k) + g (128 + (8 * i + k)))) n h2
  rw [rowSq, h3, ← sum_groups (fun k => g k + g (128 + k)) 16]
  rw [show 8 * 16 = 128 from rfl, ← sum_halves, Finset.sum_range]
  exact Finset.sum_congr rfl fun c _ => (hg c).symm

/-- The distances at an index. -/
theorem dist_apply (r : FVec Ideal S512x256 .f32) (c : FVec Ideal S1x1024x256 .f32) (q : FVec Ideal S1x1024 .f32)
    (hq : ∀ j, q (ix2 0 j) = ∑ i : Fin 256, c (ix3 0 j i) * c (ix3 0 j i)) (n : Fin 512) (j : Fin 1024) :
    dist r c q (ix2 n j) = Row.dist (fun i => r (ix2 n i)) (fun j i => c (ix3 0 j i)) j := by
  pointwise [dist, Row.dist]
  rw [rowSq_apply, hq]

/-- Each row's least distance. -/
theorem least_apply (d : FVec Ideal S512x1024 .f32) (n : Fin 512) :
    least d (ix2 n 0) = d (ix2 n (Row.near fun j => d (ix2 n j))) := by
  pointwise [least]
  rw [Row.posInf_eq]
  exact Row.fold_min fun j => d (ix2 n j)

/-- The exponentials at an index. -/
theorem expo_apply (d : FVec Ideal S512x1024 .f32) (n : Fin 512) (j : Fin 1024) :
    expo d (ix2 n j) = Ideal.exp (d (ix2 n j) * Row.negTwo - d (ix2 n (Row.near fun j => d (ix2 n j))) * Row.negTwo) := by
  rw [← least_apply d n]
  pointwise [expo]

/-- The probabilities at an index. -/
theorem probs_apply (d : FVec Ideal S512x1024 .f32) (n : Fin 512) (j : Fin 1024) :
    probs d (ix3 0 n j) = Row.probK (fun j => d (ix2 n j)) j := by
  pointwise [probs]
  simp only [expo_apply]
  rw [Row.probK, Row.one_eq, EReal.coe_one]

/-- The picked index of each row. -/
theorem oneHot_apply (i : IVec S512 32) (n : Fin 512) (k : Fin 1024) (hi : i (ix1 n) = BitVec.ofNat 32 k.val)
    (j : Fin 1024) : oneHot (F := Ideal) i (ix2 n j) = if j = k then 1 else 0 := by
  pointwise [oneHot, cols]
  rw [hi]
  change (((BitVec.setWidth 32 (IntOp.cmpi CmpIPredicate.eq (BitVec.ofNat 32 j.val) (BitVec.ofNat 32 k.val))).toInt : ℝ) : EReal) = _
  by_cases h : j = k
  · subst h
    simp [IntOp.cmpi]
  · have hne : ¬ BitVec.ofNat 32 j.val = BitVec.ofNat 32 k.val := fun e => h (Fin.ext (by
      have := congrArg BitVec.toInt e
      rw [Row.toInt_index, Row.toInt_index] at this
      exact_mod_cast this))
    simp [IntOp.cmpi, h, beq_eq_false_iff_ne.mpr hne]

/-- A one-hot selection reads one row of the table. -/
theorem times_apply (o : FVec Ideal S512x1024 .f32) (h : FVec Ideal S1x1024x256 .f32) (n : Fin 512) (k : Fin 1024)
    (ho : ∀ j, o (ix2 n j) = if j = k then 1 else 0) (c : Fin 256) :
    times o h (ix2 n c) = h (ix3 0 k c) := by
  pointwise [times]
  simp only [ho]
  rw [Finset.sum_eq_single k]
  · simp
  · intro b _ hb; simp [hb]
  · intro hk; exact absurd (Finset.mem_univ _) hk

/-- The signed minimum reads as the minimum of the two words' values. -/
theorem toInt_minsi (x y : BitVec 32) : (IntOp.minsi x y).toInt = min x.toInt y.toInt := by
  rw [IntOp.minsi, BitVec.slt]
  by_cases h : x.toInt < y.toInt
  · simp [h, h.le]
  · simp [h, not_lt.mp h]

/-- A fold of signed minima is the word it meets whose value is at most every other's. -/
theorem fold_minsi (f : Fin 1024 → BitVec 32) (b : BitVec 32) (k : Fin 1024) (hb : (f k).toInt ≤ b.toInt)
    (hk : ∀ j, (f k).toInt ≤ (f j).toInt) : Finset.univ.fold IntOp.minsi b f = f k := by
  apply BitVec.eq_of_toInt_eq
  rw [← Finset.fold_hom (op' := min) (m := BitVec.toInt) toInt_minsi]
  apply le_antisymm
  · exact (Finset.fold_min_le _).mpr (Or.inr ⟨k, Finset.mem_univ _, le_rfl⟩)
  · exact (Finset.le_fold_min _).mpr ⟨hb, fun j _ => hk j⟩

/-- Each row's index is its first nearest entry. -/
theorem ids_apply (d : FVec Ideal S512x1024 .f32) (n : Fin 512) :
    ids d (ix1 n) = BitVec.ofNat 32 (Row.near fun j => d (ix2 n j)).val := by
  pointwise [ids, cols]
  rw [least_apply]
  have hs := Row.near_spec fun j => d (ix2 n j)
  set k := Row.near fun j => d (ix2 n j)
  refine (fold_minsi (fun x => if d (ix2 n x) = d (ix2 n k) then BitVec.ofNat 32 x.val else 1024#32) _ k ?_ ?_).trans
    (if_pos rfl)
  · rw [if_pos rfl, Row.toInt_index]
    have := k.isLt
    simp
    omega
  · intro j
    beta_reduce
    rw [if_pos rfl, Row.toInt_index]
    split
    · rename_i h
      rw [Row.toInt_index]
      have : ¬ j < k := fun hlt => absurd h (hs.2 j hlt).ne'
      exact_mod_cast not_lt.mp this
    · have := k.isLt
      simp

/-- The entry picked, put together from the three parts of the table's row. -/
theorem pick_apply (d : FVec Ideal S512x1024 .f32) (hi mid lo : FVec Ideal S1x1024x256 .f32) (n : Fin 512) (c : Fin 256) :
    pick d hi mid lo (ix2 n c) = hi (ix3 0 (Row.near fun j => d (ix2 n j)) c)
      + mid (ix3 0 (Row.near fun j => d (ix2 n j)) c) + lo (ix3 0 (Row.near fun j => d (ix2 n j)) c) := by
  have ho := oneHot_apply (ids d) n _ (ids_apply d n)
  change times _ hi _ + times _ mid _ + times _ lo _ = _
  rw [times_apply _ hi n _ ho, times_apply _ mid n _ ho, times_apply _ lo n _ ho]

end Cert.KernelIdeal.Hand

end
-- ==== Proof.KernelBlock.lean ====
/- What one block's body leaves in its output buffers, at an index: each row's values are those of the row's
   own mathematics, when the table's three parts add up to the codebooks and the sums of squares are theirs. -/
module

public import proofs.«01_k».proof.Proof.KernelOps
public import Idealize.ShloMosaic.Lib.Pipeline.ValueKit

@[expose] public section

set_option maxRecDepth 16384

noncomputable section

namespace Cert.KernelIdeal.Hand

open Idealize.ShloMosaic Cert.KernelIdeal Cert.KernelIdeal.Gen

/-- The codebooks of a stack, by layer number. -/
def books (x : Vec Ideal S4x1024x256 .f32) (k : ℕ) (j : Fin 1024) (c : Fin 256) : EReal := x (ix3 (Row.layer k) j c)

/-- One layer of a stack of tables at an index. -/
theorem part_apply (x : Vec Ideal S4x1024x256 .f32) (k : ℕ) (j : Fin 1024) (c : Fin 256) :
    part x k (ix3 0 j c) = books x k j c := by
  rcases k with _ | _ | _ | k
  · pointwise [part, books, Row.layer]; blk_ext
  · pointwise [part, books, Row.layer]; blk_ext
  · pointwise [part, books, Row.layer]; blk_ext
  · pointwise [part, books, Row.layer]; blk_ext

/-- One layer of the stack of sums of squares at an index. -/
theorem sqs_apply (x : Vec Ideal S4x1024 .f32) (k : ℕ) (j : Fin 1024) :
    sqs x k (ix2 0 j) = x (ix2 (Row.layer k) j) := by
  rcases k with _ | _ | _ | k
  · pointwise [sqs, Row.layer]; blk_ext
  · pointwise [sqs, Row.layer]; blk_ext
  · pointwise [sqs, Row.layer]; blk_ext
  · pointwise [sqs, Row.layer]; blk_ext

variable {x0 : Vec Ideal S512x256 .f32} {x1 : Vec Ideal S4x1024x256 .f32} {x2 : Vec Ideal S4x1024 .f32}
  {x3 x4 x5 : Vec Ideal S4x1024x256 .f32}
  (hq : ∀ l j, x2 (ix2 l j) = ∑ i : Fin 256, x1 (ix3 l j i) * x1 (ix3 l j i))
  (hw : ∀ l j i, (x3 (ix3 l j i) + x4 (ix3 l j i) + x5 (ix3 l j i) : EReal) = x1 (ix3 l j i))

include hq in
/-- A layer's distances at an index. -/
theorem distPart_apply (r : FVec Ideal S512x256 .f32) (k : ℕ) (n : Fin 512) (j : Fin 1024) :
    dist r (part x1 k) (sqs x2 k) (ix2 n j) = Row.dist (fun i => r (ix2 n i)) (books x1 k) j := by
  rw [dist_apply r (part x1 k) (sqs x2 k) ?_ n j]
  · simp only [part_apply]
  · intro j
    simp only [part_apply, sqs_apply, hq]
    rfl

include hw in
/-- The entry a layer picks, at an index. -/
theorem pickPart_apply (d : FVec Ideal S512x1024 .f32) (k : ℕ) (n : Fin 512) (c : Fin 256) :
    pick d (part x3 k) (part x4 k) (part x5 k) (ix2 n c) = books x1 k (Row.near fun j => d (ix2 n j)) c := by
  rw [pick_apply, part_apply, part_apply, part_apply]
  exact hw _ _ _

include hq hw in
/-- The residual at an index. -/
theorem resid_apply (k : ℕ) (n : Fin 512) (c : Fin 256) :
    resid x0 x1 x2 x3 x4 x5 k (ix2 n c) = Row.resid (fun c => x0 (ix2 n c)) (books x1) k c := by
  induction k generalizing c with
  | zero => pointwise [resid, Row.resid]; blk_ext
  | succ k ih =>
    change resid x0 x1 x2 x3 x4 x5 k (ix2 n c) - pick _ (part x3 k) (part x4 k) (part x5 k) (ix2 n c) = _
    rw [pickPart_apply hw, Row.resid, ih]
    simp only [distPart_apply hq, ih]

include hq hw in
/-- The distances at an index. -/
theorem dists_apply (k : ℕ) (n : Fin 512) (j : Fin 1024) :
    dists x0 x1 x2 x3 x4 x5 k (ix2 n j) = Row.dists (fun c => x0 (ix2 n c)) (books x1) k j := by
  rw [dists, distPart_apply hq]
  simp only [resid_apply hq hw]
  rfl

include hq hw in
/-- The sum of picks at an index. -/
theorem total_apply (k : ℕ) (n : Fin 512) (c : Fin 256) :
    total x0 x1 x2 x3 x4 x5 k (ix2 n c) = Row.total (fun c => x0 (ix2 n c)) (books x1) k c := by
  induction k with
  | zero => pointwise [total, Row.total]
  | succ k ih =>
    change total x0 x1 x2 x3 x4 x5 k (ix2 n c) + pick _ (part x3 k) (part x4 k) (part x5 k) (ix2 n c) = _
    rw [pickPart_apply hw, ih, Row.total]
    simp only [dists_apply hq hw]

/-- A stored layer of probabilities, read at its own index, is the layer that index lies in. -/
theorem layer3_at (f : ℕ → FVec Ideal S1x512x1024 .f32) {k : ℕ} {l : Fin 4} {n : Fin 512} {j : Fin 1024}
    (x : S1x512x1024.Idx) (hk : l.val = k + (x 0).val) (h1 : n.val = (x 1).val) (h2 : j.val = (x 2).val) :
    f k x = f l.val (ix3 0 n j) := by
  obtain rfl : x = ix3 0 n j := by
    obtain rfl : n = x 1 := Fin.ext h1
    obtain rfl : j = x 2 := Fin.ext h2
    blk_ext
  rw [hk]
  rfl

/-- A stored row of indices, read at its own index, is the row that index lies in. -/
theorem layer2_at (f : ℕ → IVec S512 32) {k : ℕ} {l : Fin 4} {n : Fin 512}
    (x : S1x512.Idx) (hk : l.val = k + (x 0).val) (h1 : n.val = (x 1).val) :
    shapeCast S1x512 (f k) shapeCasts_S512_S1x512 x = f l.val (ix1 n) := by
  obtain rfl : x = ix2 0 n := by
    obtain rfl : n = x 1 := Fin.ext h1
    blk_ext
  rw [hk]
  pointwise []

include hq hw in
/-- The block of sums the body leaves. -/
theorem out_total_apply (n : Fin 512) (c : Fin 256) :
    out1_6 x0 x1 x2 x3 x4 x5 (ix2 n c) = Row.total (fun c => x0 (ix2 n c)) (books x1) 4 c := by
  rw [out_total, ← total_apply hq hw]
  canon_tiles x h
  refine congrArg _ ?_
  blk_ext
  · exact h0.symm
  · exact h1.symm

include hq hw in
/-- The blocks of probabilities the body leaves. -/
theorem out_probs_apply (l : Fin 4) (n : Fin 512) (j : Fin 1024) :
    out1_7 x0 x1 x2 x3 x4 x5 (ix3 l n j) = Row.probK (Row.dists (fun c => x0 (ix2 n c)) (books x1) l.val) j := by
  have hp : ∀ k : ℕ, probs (dists x0 x1 x2 x3 x4 x5 k) (ix3 0 n j)
      = Row.probK (Row.dists (fun c => x0 (ix2 n c)) (books x1) k) j := fun k => by
    rw [probs_apply]; simp only [dists_apply hq hw]
  rw [out_probs, ← hp]
  canon_tiles x h
  all_goals
    refine layer3_at (fun k => probs (dists x0 x1 x2 x3 x4 x5 k)) x ?_ h1 h2
    simpa using h0

include hq hw in
/-- The rows of indices the body leaves. -/
theorem out_ids_apply (l : Fin 4) (n : Fin 512) :
    out1_8 x0 x1 x2 x3 x4 x5 (ix2 l n)
      = BitVec.ofNat 32 (Row.near (Row.dists (fun c => x0 (ix2 n c)) (books x1) l.val)).val := by
  have hp : ∀ k : ℕ, ids (dists x0 x1 x2 x3 x4 x5 k) (ix1 n)
      = BitVec.ofNat 32 (Row.near (Row.dists (fun c => x0 (ix2 n c)) (books x1) k)).val := fun k => by
    rw [ids_apply]; simp only [dists_apply hq hw]
  rw [out_ids, ← hp]
  canon_tiles x h
  all_goals
    refine layer2_at (fun k => ids (dists x0 x1 x2 x3 x4 x5 k)) x ?_ h1
    simpa using h0

end Cert.KernelIdeal.Hand

end
-- ==== Proof.KernelSquares.lean ====
/- The array of the codebook entries' sums of squares that the program prepares before its kernels. -/
module

public import proofs.«01_k».proof.Proof.Gen.KernelIdeal.Frame
public import proofs.«01_k».proof.Proof.Row
public import Idealize.ShloMosaic.Lib.StableHlo.RunRead
public import Idealize.ShloMosaic.Lib.Pointwise

@[expose] public section

set_option maxRecDepth 16384

noncomputable section

namespace Cert.KernelIdeal.Hand

open Idealize.ShloMosaic Cert.KernelIdeal Cert.KernelIdeal.Gen

/-- The sums of squares of the rows of one codebook. -/
def rowSums {F : FTy → Type} [FloatOps F] (b : FVec F S1x1024x256 .f32) : FVec F S1024 .f32 :=
  Host.reduceAdd (mulf (shapeCast S1024x256 b shapeCasts_S1x1024x256_S1024x256)
    (shapeCast S1024x256 b shapeCasts_S1x1024x256_S1024x256)) (constant S_ .f32 0x00000000#32)
    reducesTo_S1024x256_S1024_d1 h_S_

/-- Four rows stacked. -/
def stack4 {F : FTy → Type} [FloatOps F] (a b c d : FVec F S1024 .f32) : FVec F S4x1024 .f32 :=
  concatenate S4x1024 0
    [⟨S1x1024, broadcastInDim S1x1024 ![1] bcast_S1024_S1x1024_1 a⟩,
     ⟨S1x1024, broadcastInDim S1x1024 ![1] bcast_S1024_S1x1024_1 b⟩,
     ⟨S1x1024, broadcastInDim S1x1024 ![1] bcast_S1024_S1x1024_1 c⟩,
     ⟨S1x1024, broadcastInDim S1x1024 ![1] bcast_S1024_S1x1024_1 d⟩]
    concatenates_S1x1024_S1x1024_S1x1024_S1x1024_S4x1024_d0

/-- The sums of squares of every codebook. -/
def squares {F : FTy → Type} [FloatOps F] (w : FVec F S4x1024x256 .f32) : FVec F S4x1024 .f32 :=
  stack4
    (rowSums (extractStridedSlice S1x1024x256 ![0, 0, 0] w slices_S4x1024x256_S1x1024x256_0_0_0))
    (rowSums (extractStridedSlice S1x1024x256 ![1, 0, 0] w slices_S4x1024x256_S1x1024x256_1_0_0))
    (rowSums (extractStridedSlice S1x1024x256 ![2, 0, 0] w slices_S4x1024x256_S1x1024x256_2_0_0))
    (rowSums (extractStridedSlice S1x1024x256 ![3, 0, 0] w slices_S4x1024x256_S1x1024x256_3_0_0))

set_option maxHeartbeats 2000000 in
/-- The prepared array is the sums of squares of the codebooks. -/
theorem squares_ready {F : FTy → Type} [FloatOps F] (V : Valuation τ sig (Elt F)) :
    StableHlo.after hostOps0 V (Proc.devRef .tc main_call0_v28) = squares (V (Proc.devRef .tc main_arg1)) := by
  after_reads_simp
  rfl

/-- The sums of squares of one codebook at an index. -/
theorem rowSums_apply (b : FVec Ideal S1x1024x256 .f32) (j : Fin 1024) :
    rowSums b (ix1 j) = ∑ i : Fin 256, b (ix3 0 j i) * b (ix3 0 j i) := by
  pointwise [rowSums]

/-- Four rows stacked, at an index. -/
theorem stack4_apply (a : ℕ → FVec Ideal S1024 .f32) (l : Fin 4) (j : Fin 1024) :
    stack4 (a 0) (a 1) (a 2) (a 3) (ix2 l j) = a l.val (ix1 j) := by
  pointwise [stack4]
  fin_vals l with hl <;> simp [hl]

/-- The sums of squares at an index. -/
theorem squares_apply (w : FVec Ideal S4x1024x256 .f32) (l : Fin 4) (j : Fin 1024) :
    squares w (ix2 l j) = ∑ i : Fin 256, w (ix3 l j i) * w (ix3 l j i) := by
  have hst := stack4_apply (fun
    | 0 => rowSums (extractStridedSlice S1x1024x256 ![0, 0, 0] w slices_S4x1024x256_S1x1024x256_0_0_0)
    | 1 => rowSums (extractStridedSlice S1x1024x256 ![1, 0, 0] w slices_S4x1024x256_S1x1024x256_1_0_0)
    | 2 => rowSums (extractStridedSlice S1x1024x256 ![2, 0, 0] w slices_S4x1024x256_S1x1024x256_2_0_0)
    | _ => rowSums (extractStridedSlice S1x1024x256 ![3, 0, 0] w slices_S4x1024x256_S1x1024x256_3_0_0)) l j
  rw [squares]
  refine hst.trans ?_
  clear hst
  fin_cases l
  all_goals
    refine (rowSums_apply _ j).trans (Finset.sum_congr rfl fun i _ => ?_)
    pointwise []

end Cert.KernelIdeal.Hand

end
-- ==== Proof.KernelArrays.lean ====
/- What the kernels' arrays hold when they end, in terms of the arrays the main kernel is given. -/
module

public import proofs.«01_k».proof.Proof.KernelBlock
public import proofs.«01_k».proof.Proof.KernelSquares

@[expose] public section

set_option maxRecDepth 16384

noncomputable section

namespace Cert.KernelIdeal.Hand

open Idealize.ShloMosaic Idealize.ShloMosaic.TcCoe Idealize.ShloMosaic.Pipeline Idealize.SL.Sem Cert.KernelIdeal Cert.KernelIdeal.Gen

variable (V : (c : Dev nD) → (b : Ref sig .tc) → Buf (Elt Ideal) ((c : Thread nD τ).loc b))

/-- The table's leading part. -/
def lead (w : FVec Ideal S4x1024x256 .f32) : FVec Ideal S4x1024x256 .f32 := fun i => w i

/-- The table's middle part. -/
def middle (w : FVec Ideal S4x1024x256 .f32) : FVec Ideal S4x1024x256 .f32 := fun i => (w i - w i : EReal)

/-- The table's trailing part. -/
def trail (w : FVec Ideal S4x1024x256 .f32) : FVec Ideal S4x1024x256 .f32 :=
  fun i => ((w i - w i) - (w i - w i) : EReal)

/-- The first kernel's one block index. -/
theorem idx0 : win0_0.index t0_0 = ![0, 0, 0] := by decide +kernel

/-- The first kernel's block is the table. -/
theorem block0 (c : Dev nD) : iblk0 V c 0 t0_0 = V c main_arg1 := by blk_ext! [iblk0, idx0]

/-- The first kernel's first array ends at the leading part. -/
theorem lead_array (c : Dev nD) : (dat0 V c).arrAt 1 cfg0.N = lead (V c main_arg1) := by
  refine (dat0 V c).arrAt_eq_of_after_last 1 t0_0 (by decide +kernel) _ fun j => ?_
  blk_simp
  rw [after0_1, block0]
  frame_out
  pointwise [k0_pay1, lead]

/-- Its second array ends at the middle part. -/
theorem middle_array (c : Dev nD) : (dat0 V c).arrAt 2 cfg0.N = middle (V c main_arg1) := by
  refine (dat0 V c).arrAt_eq_of_after_last 2 t0_0 (by decide +kernel) _ fun j => ?_
  blk_simp
  rw [after0_2, block0]
  frame_out
  pointwise [k0_pay1, k0_pay2, k0_pay3, middle]

/-- Its third array ends at the trailing part. -/
theorem trail_array (c : Dev nD) : (dat0 V c).arrAt 3 cfg0.N = trail (V c main_arg1) := by
  refine (dat0 V c).arrAt_eq_of_after_last 3 t0_0 (by decide +kernel) _ fun j => ?_
  blk_simp
  rw [after0_3, block0]
  frame_out
  pointwise [k0_pay1, k0_pay2, k0_pay3, k0_pay4, trail]

/-- The three parts of a table of reals add up to it. -/
theorem parts_add {w : FVec Ideal S4x1024x256 .f32} (hr : ∀ i, Row.IsReal (w i)) (l : Fin 4) (j : Fin 1024) (i : Fin 256) :
    (lead w (ix3 l j i) + middle w (ix3 l j i) + trail w (ix3 l j i) : EReal) = w (ix3 l j i) := by
  simp only [lead, middle, trail, (hr _).sub_self]
  simp

/-- Every point's block index. -/
theorem idx : ∀ t : Fin cfg1.N, win1_0.index t = ![t.val, 0] ∧ win1_1.index t = ![0, 0, 0] ∧ win1_2.index t = ![0, 0]
    ∧ win1_3.index t = ![0, 0, 0] ∧ win1_4.index t = ![0, 0, 0] ∧ win1_5.index t = ![0, 0, 0]
    ∧ win1_6.index t = ![t.val, 0] ∧ win1_7.index t = ![0, t.val, 0] ∧ win1_8.index t = ![0, t.val] :=
  (by decide +kernel : ∀ t : Fin grid1.N, _)

/-- The arrays the main kernel is given: the sums of squares and the three parts are those of its codebooks,
    whose entries are real. -/
structure Given (c : Dev nD) : Prop where
  sq : V c main_call0_v28 = squares (F := Ideal) (V c main_arg1)
  hi : V c main_call0_v29_0 = lead (V c main_arg1)
  mid : V c main_call0_v29_1 = middle (V c main_arg1)
  lo : V c main_call0_v29_2 = trail (V c main_arg1)
  real : ∀ i : S4x1024x256.Idx, Row.IsReal ((V c main_arg1 : FVec Ideal S4x1024x256 .f32) i)

/-- The codebooks' block is the array. -/
theorem block1 (c : Dev nD) (t : Fin cfg1.N) : iblk1 V c 1 t = V c main_arg1 := by blk_ext! [iblk1, idx t]
/-- The sums of squares' block is the array. -/
theorem block2 (c : Dev nD) (t : Fin cfg1.N) : iblk1 V c 2 t = V c main_call0_v28 := by blk_ext! [iblk1, idx t]
/-- The leading part's block is the array. -/
theorem block3 (c : Dev nD) (t : Fin cfg1.N) : iblk1 V c 3 t = V c main_call0_v29_0 := by blk_ext! [iblk1, idx t]
/-- The middle part's block is the array. -/
theorem block4 (c : Dev nD) (t : Fin cfg1.N) : iblk1 V c 4 t = V c main_call0_v29_1 := by blk_ext! [iblk1, idx t]
/-- The trailing part's block is the array. -/
theorem block5 (c : Dev nD) (t : Fin cfg1.N) : iblk1 V c 5 t = V c main_call0_v29_2 := by blk_ext! [iblk1, idx t]

/-- The sums of picks of every row. -/
def totals (z : FVec Ideal S16384x256 .f32) (w : FVec Ideal S4x1024x256 .f32) : FVec Ideal S16384x256 .f32 :=
  fun i => Row.total (fun k => z (ix2 (i 0) k)) (books w) 4 (i 1)

/-- The probabilities of every row at every layer. -/
def allProbs (z : FVec Ideal S16384x256 .f32) (w : FVec Ideal S4x1024x256 .f32) : FVec Ideal S4x16384x1024 .f32 :=
  fun i => Row.probK (Row.dists (fun k => z (ix2 (i 1) k)) (books w) (i 0).val) (i 2)

/-- The indices of every row at every layer. -/
def allIds (z : FVec Ideal S16384x256 .f32) (w : FVec Ideal S4x1024x256 .f32) : IVec S4x16384 32 :=
  fun i => BitVec.ofNat 32 (Row.near (Row.dists (fun k => z (ix2 (i 1) k)) (books w) (i 0).val)).val

variable {V}

/-- A row of the block at a point is the row of the array it lands on. -/
theorem row_at (c : Dev nD) (t : Fin cfg1.N) (n : Fin 512) (N : Fin 16384) (hN : N.val = t.val * 512 + n.val) (k : Fin 256) :
    (iblk1 V c 0 t (ix2 n k) : EReal) = V c main_arg0 (ix2 N k) := by
  blk_ext [iblk1, idx t]

/-- The array of sums. -/
theorem total_array {c : Dev nD} (h : Given V c) : (dat1 V c).arrAt 6 cfg1.N = totals (V c main_arg0) (V c main_arg1) := by
  refine (dat1 V c).arrAt_eq_of_covers 6 _ (by decide +kernel) fun t hf y => ?_
  blk_simp
  rw [after1_6, block1, block2, block3, block4, block5, h.sq, h.hi, h.mid, h.lo]
  obtain ⟨n, k, rfl⟩ : ∃ n k, y = ix2 n k := ⟨y 0, y 1, by blk_ext⟩
  refine (out_total_apply (squares_apply _) (parts_add h.real) n k).trans ?_
  have e0 : (((win1_6.blk t).view.emb (ix2 n k)) 0 : ℕ) = t.val * 512 + n.val := by blk_simp [idx t]
  have e1 : (((win1_6.blk t).view.emb (ix2 n k)) 1 : ℕ) = k.val := by blk_simp [idx t]
  exact congrArg₂ (fun r k => Row.total r (books (V c main_arg1)) 4 k) (funext fun q => row_at c t n _ e0 q)
    (Fin.ext e1.symm)

/-- The array of probabilities. -/
theorem probs_array {c : Dev nD} (h : Given V c) : (dat1 V c).arrAt 7 cfg1.N = allProbs (V c main_arg0) (V c main_arg1) := by
  refine (dat1 V c).arrAt_eq_of_covers 7 _ (by decide +kernel) fun t hf y => ?_
  blk_simp
  rw [after1_7, block1, block2, block3, block4, block5, h.sq, h.hi, h.mid, h.lo]
  obtain ⟨l, n, j, rfl⟩ : ∃ l n j, y = ix3 l n j := ⟨y 0, y 1, y 2, by blk_ext⟩
  refine (out_probs_apply (squares_apply _) (parts_add h.real) l n j).trans ?_
  have e0 : (((win1_7.blk t).view.emb (ix3 l n j)) 0 : ℕ) = l.val := by blk_simp [idx t]
  have e1 : (((win1_7.blk t).view.emb (ix3 l n j)) 1 : ℕ) = t.val * 512 + n.val := by blk_simp [idx t]
  have e2 : (((win1_7.blk t).view.emb (ix3 l n j)) 2 : ℕ) = j.val := by blk_simp [idx t]
  unfold allProbs
  rw [e0]
  exact congrArg₂ (fun r j => Row.probK (Row.dists r (books (V c main_arg1)) l.val) j)
    (funext fun q => row_at c t n _ e1 q) (Fin.ext e2.symm)

/-- The array of indices. -/
theorem ids_array {c : Dev nD} (h : Given V c) : (dat1 V c).arrAt 8 cfg1.N = allIds (V c main_arg0) (V c main_arg1) := by
  refine (dat1 V c).arrAt_eq_of_covers 8 _ (by decide +kernel) fun t hf y => ?_
  blk_simp
  rw [after1_8, block1, block2, block3, block4, block5, h.sq, h.hi, h.mid, h.lo]
  obtain ⟨l, n, rfl⟩ : ∃ l n, y = ix2 l n := ⟨y 0, y 1, by blk_ext⟩
  refine (out_ids_apply (squares_apply _) (parts_add h.real) l n).trans ?_
  have e0 : (((win1_8.blk t).view.emb (ix2 l n)) 0 : ℕ) = l.val := by blk_simp [idx t]
  have e1 : (((win1_8.blk t).view.emb (ix2 l n)) 1 : ℕ) = t.val * 512 + n.val := by blk_simp [idx t]
  unfold allIds
  rw [e0]
  exact congrArg (fun r => BitVec.ofNat 32 (Row.near (Row.dists r (books (V c main_arg1)) l.val)).val)
    (funext fun q => row_at c t n _ e1 q)

end Cert.KernelIdeal.Hand

end
-- ==== Proof.KernelRun.lean ====
/- The run of the kernel's program: its results end at the arrays of the rows' own mathematics. -/
module

public import proofs.«01_k».proof.Proof.KernelArrays

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable (m : (ℓ : Loc nD τ sig) → Buf (Elt Ideal) ℓ) (ρ : Dev nD → PrngReg)

/-- What the main kernel is given, when the launched codebooks' entries are real. -/
theorem given (c : Dev nD)
    (hr : ∀ i : S4x1024x256.Idx, Row.IsReal ((m ((c : Thread nD τ).loc main_arg1) : FVec Ideal S4x1024x256 .f32) i)) :
    Given (V2 m ρ) c := by
  have h1 : V2 m ρ c main_arg1 = m ((c : Thread nD τ).loc main_arg1) := W2_args m ρ c main_arg1 (by decide)
  have h2 : V1 m ρ c main_arg1 = m ((c : Thread nD τ).loc main_arg1) := W1_args m ρ c main_arg1 (by decide)
  refine ⟨?_, ?_, ?_, ?_, ?_⟩
  · rw [h1]
    exact (W2_of m ρ c main_call0_v28 (by decide)).trans (squares_ready (W0 m ρ c))
  · rw [h1, ← h2]
    exact (W2_arr m ρ c 1).trans (lead_array _ c)
  · rw [h1, ← h2]
    exact (W2_arr m ρ c 2).trans (middle_array _ c)
  · rw [h1, ← h2]
    exact (W2_arr m ρ c 3).trans (trail_array _ c)
  · rw [h1]
    exact hr

/-- The array of sums when the program ends. -/
theorem end_total (c : Dev nD)
    (hr : ∀ i : S4x1024x256.Idx, Row.IsReal ((m ((c : Thread nD τ).loc main_arg1) : FVec Ideal S4x1024x256 .f32) i)) :
    W3 m ρ c (Proc.devRef .tc main_v0_0)
      = totals (m ((c : Thread nD τ).loc main_arg0)) (m ((c : Thread nD τ).loc main_arg1)) := by
  have h0 : V2 m ρ c main_arg0 = m ((c : Thread nD τ).loc main_arg0) := W2_args m ρ c main_arg0 (by decide)
  have h1 : V2 m ρ c main_arg1 = m ((c : Thread nD τ).loc main_arg1) := W2_args m ρ c main_arg1 (by decide)
  rw [← h0, ← h1]
  exact (W3_arr m ρ c 6).trans (total_array (given m ρ c hr))

/-- The array of probabilities when the program ends. -/
theorem end_probs (c : Dev nD)
    (hr : ∀ i : S4x1024x256.Idx, Row.IsReal ((m ((c : Thread nD τ).loc main_arg1) : FVec Ideal S4x1024x256 .f32) i)) :
    W3 m ρ c (Proc.devRef .tc main_v0_1)
      = allProbs (m ((c : Thread nD τ).loc main_arg0)) (m ((c : Thread nD τ).loc main_arg1)) := by
  have h0 : V2 m ρ c main_arg0 = m ((c : Thread nD τ).loc main_arg0) := W2_args m ρ c main_arg0 (by decide)
  have h1 : V2 m ρ c main_arg1 = m ((c : Thread nD τ).loc main_arg1) := W2_args m ρ c main_arg1 (by decide)
  rw [← h0, ← h1]
  exact (W3_arr m ρ c 7).trans (probs_array (given m ρ c hr))

/-- The array of indices when the program ends. -/
theorem end_ids (c : Dev nD)
    (hr : ∀ i : S4x1024x256.Idx, Row.IsReal ((m ((c : Thread nD τ).loc main_arg1) : FVec Ideal S4x1024x256 .f32) i)) :
    W3 m ρ c (Proc.devRef .tc main_v0_2)
      = allIds (m ((c : Thread nD τ).loc main_arg0)) (m ((c : Thread nD τ).loc main_arg1)) := by
  have h0 : V2 m ρ c main_arg0 = m ((c : Thread nD τ).loc main_arg0) := W2_args m ρ c main_arg0 (by decide)
  have h1 : V2 m ρ c main_arg1 = m ((c : Thread nD τ).loc main_arg1) := W2_args m ρ c main_arg1 (by decide)
  rw [← h0, ← h1]
  exact (W3_arr m ρ c 8).trans (ids_array (given m ρ c hr))

set_option backward.isDefEq.respectTransparency.types false in
/-- Every weakly fair run ends with the results at the last boundary's contents and the arguments as launched. -/
theorem run : θ_run defs (onTc (τ := τ) (main (F := Ideal))) ⟨m, fun _ => 0, ρ⟩ (fun r => ∀ c : Dev nD,
      r.2.mem ((c.tc : Thread nD τ).loc main_v0_0) = W3 m ρ c (Proc.devRef .tc main_v0_0)
      ∧ r.2.mem ((c.tc : Thread nD τ).loc main_v0_1) = W3 m ρ c (Proc.devRef .tc main_v0_1)
      ∧ r.2.mem ((c.tc : Thread nD τ).loc main_v0_2) = W3 m ρ c (Proc.devRef .tc main_v0_2)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨h c _ (mem_uc main_v0_0 (by decide)), h c _ (mem_uc main_v0_1 (by decide)), h c _ (mem_uc main_v0_2 (by decide)),
       (h c _ (mem_uc main_arg0 (by decide))).trans (W3_main_arg0 m ρ c),
       (h c _ (mem_uc main_arg1 (by decide))).trans (W3_main_arg1 m ρ c)⟩)

end Cert.KernelIdeal.Hand

end
-- ==== Proof.RefArgmin.lean ====
/- The reference's index of the least distance: whatever order the fold runs in, it ends at the first
   index of a row at which the distance is least. -/
module

public import proofs.«01_k».proof.Proof.RefLayer
public import proofs.«01_k».proof.Proof.Row
public import Idealize.ShloMosaic.PureOps.Reduce
public import Idealize.ShloMosaic.Lib.Pointwise

@[expose] public section

set_option maxRecDepth 16384

noncomputable section

namespace Cert.ReferenceIdeal.Hand

open Idealize.ShloMosaic Cert.ReferenceIdeal
open Cert.ReferenceIdeal.Facts₀ Cert.ReferenceIdeal.Facts

/-- One pair is at most another: its value is less, or they are equal and its index is no greater. -/
def PairLe (p q : Ideal .f32 × BitVec 32) : Prop :=
  (show EReal from p.1) < q.1 ∨ p.1 = q.1 ∧ p.2.toInt ≤ q.2.toInt

/-- A pair is at most itself. -/
theorem PairLe.refl (p : Ideal .f32 × BitVec 32) : PairLe p p := Or.inr ⟨rfl, le_rfl⟩

/-- Pairs compare transitively. -/
theorem PairLe.trans {p q r : Ideal .f32 × BitVec 32} (h : PairLe p q) (h' : PairLe q r) : PairLe p r := by
  obtain ⟨p1, p2⟩ := p; obtain ⟨q1, q2⟩ := q; obtain ⟨r1, r2⟩ := r
  simp only [PairLe] at h h' ⊢
  rcases h with h | ⟨rfl, h⟩ <;> rcases h' with h' | ⟨rfl, h'⟩
  · exact Or.inl (lt_trans h h')
  · exact Or.inl h
  · exact Or.inl h'
  · exact Or.inr ⟨rfl, h.trans h'⟩

/-- One step of the fold keeps one of its two pairs, and the one kept is at most both. -/
theorem reducer_spec (a b : Ideal .f32 × BitVec 32) :
    (reducer_argmin_f32_i32 a b = a ∨ reducer_argmin_f32_i32 a b = b)
      ∧ PairLe (reducer_argmin_f32_i32 a b) a ∧ PairLe (reducer_argmin_f32_i32 a b) b := by
  obtain ⟨x, i⟩ := a
  obtain ⟨y, k⟩ := b
  change EReal at x y
  rcases lt_trichotomy x y with h | h | h
  · have : reducer_argmin_f32_i32 (F := Ideal) (x, i) (y, k) = (x, i) := by
      simp [reducer_argmin_f32_i32, Ideal.cmpf_def, Ideal.cmp, Scalar.select, IntOp.ori, IntOp.andi, h, h.ne]
    rw [this]
    exact ⟨Or.inl rfl, PairLe.refl _, Or.inl h⟩
  · subst h
    by_cases hik : i.toInt < k.toInt
    · have : reducer_argmin_f32_i32 (F := Ideal) (x, i) (x, k) = (x, i) := by
        simp [reducer_argmin_f32_i32, Ideal.cmpf_def, Ideal.cmp, Scalar.select, IntOp.ori, IntOp.andi, IntOp.cmpi,
          BitVec.slt, hik]
      rw [this]
      exact ⟨Or.inl rfl, PairLe.refl _, Or.inr ⟨rfl, hik.le⟩⟩
    · have : reducer_argmin_f32_i32 (F := Ideal) (x, i) (x, k) = (x, k) := by
        simp [reducer_argmin_f32_i32, Ideal.cmpf_def, Ideal.cmp, Scalar.select, IntOp.ori, IntOp.andi, IntOp.cmpi,
          BitVec.slt, hik]
      rw [this]
      exact ⟨Or.inr rfl, Or.inr ⟨rfl, not_lt.mp hik⟩, PairLe.refl _⟩
  · have : reducer_argmin_f32_i32 (F := Ideal) (x, i) (y, k) = (y, k) := by
      simp [reducer_argmin_f32_i32, Ideal.cmpf_def, Ideal.cmp, Scalar.select, IntOp.ori, IntOp.andi, h.not_gt, h.ne']
    rw [this]
    exact ⟨Or.inr rfl, Or.inl h, PairLe.refl _⟩

/-- The fold ends at a pair it met, at most every pair it met. -/
theorem foldl_reducer (l : List (Ideal .f32 × BitVec 32)) (a : Ideal .f32 × BitVec 32) :
    l.foldl reducer_argmin_f32_i32 a ∈ a :: l ∧ ∀ q ∈ a :: l, PairLe (l.foldl reducer_argmin_f32_i32 a) q := by
  induction l generalizing a with
  | nil => simpa using PairLe.refl a
  | cons b l ih =>
    obtain ⟨hmem, hle⟩ := ih (reducer_argmin_f32_i32 a b)
    obtain ⟨hpick, hA, hB⟩ := reducer_spec a b
    rw [List.foldl_cons]
    have h0 := hle _ List.mem_cons_self
    refine ⟨?_, fun q hq => ?_⟩
    · rcases List.mem_cons.mp hmem with h | h
      · rw [h]
        rcases hpick with hp | hp <;> rw [hp] <;> simp
      · exact List.mem_cons_of_mem _ (List.mem_cons_of_mem _ h)
    · rcases List.mem_cons.mp hq with rfl | hq
      · exact h0.trans hA
      · rcases List.mem_cons.mp hq with rfl | hq
        · exact h0.trans hB
        · exact hle q (List.mem_cons_of_mem _ hq)

/-- A row's pairs are its distances with their own indices. -/
theorem mem_fiber (d : FVec Ideal S16384x1024 .f32) [Facts] (n : Fin 16384) (q : Ideal .f32 × BitVec 32) :
    q ∈ Host.argReduceFiber d (iotaInDim S16384x1024 32 1) reducesTo_S16384x1024_S16384_d1 (ix1 n)
      ↔ ∃ k : Fin 1024, q = (d (ix2 n k), BitVec.ofNat 32 k.val) := by
  have hi : ∀ k : Fin 1024, iotaInDim S16384x1024 32 1 (ix2 n k) = BitVec.ofNat 32 k.val := fun k => rfl
  rw [Host.argReduceFiber, List.mem_map]
  constructor
  · rintro ⟨p, hp, rfl⟩
    have hp' := of_decide_eq_true (List.mem_filter.mp hp).2
    obtain ⟨k, hk⟩ := (Shape.ReducesTo.fiber_r2_a1 reducesTo_S16384x1024_S16384_d1 (ix1 n) _).mp hp'
    refine ⟨k, ?_⟩
    rw [← hk]
    rfl
  · rintro ⟨k, rfl⟩
    refine ⟨S16384x1024.rowMajor (ix2 n k), List.mem_filter.mpr ⟨List.mem_finRange _, decide_eq_true ?_⟩, ?_⟩
    · rw [Equiv.symm_apply_apply]
      exact (Shape.ReducesTo.fiber_r2_a1 reducesTo_S16384x1024_S16384_d1 (ix1 n) _).mpr ⟨k, rfl⟩
    · rw [Equiv.symm_apply_apply]
      rfl

/-- The index array holds each row's first least index. -/
theorem ids_apply [Facts] (d : FVec Ideal S16384x1024 .f32) (n : Fin 16384) :
    ids d (ix1 n) = BitVec.ofNat 32 (Row.near fun j => d (ix2 n j)).val := by
  have hids : ids d = fun j => (Host.argReduce reducer_argmin_f32_i32 d (iotaInDim S16384x1024 32 1)
    (constant S_ .f32 0x7F800000#32) (constantI S_ 32 0#32) reducesTo_S16384x1024_S16384_d1 h_S_ j).2 := rfl
  rw [hids, Ideal.argReduce_eq_reduce2]
  beta_reduce
  rw [Host.reduce2_eq_foldl_fiber]
  obtain ⟨hmem, hle⟩ := foldl_reducer
    (Host.argReduceFiber d (iotaInDim S16384x1024 32 1) reducesTo_S16384x1024_S16384_d1 (ix1 n))
    (constant S_ .f32 0x7F800000#32 (Shape.Idx.first h_S_), constantI S_ 32 0#32 (Shape.Idx.first h_S_))
  generalize List.foldl _ _ _ = p at hmem hle ⊢
  have hrow : ∀ k : Fin 1024, PairLe p (d (ix2 n k), BitVec.ofNat 32 k.val) := fun k =>
    hle _ (List.mem_cons_of_mem _ ((mem_fiber d n _).mpr ⟨k, rfl⟩))
  rcases List.mem_cons.mp hmem with h | h
  · have hp1 : p.1 = (⊤ : EReal) := by rw [h]; exact Row.posInf_eq
    have hp2 : p.2 = 0#32 := by rw [h]; rfl
    have htop : ∀ k : Fin 1024, d (ix2 n k) = (⊤ : EReal) := fun k => by
      rcases hrow k with hk | ⟨hk, _⟩
      · rw [hp1] at hk; exact absurd hk not_top_lt
      · rw [← hp1]; exact hk.symm
    have : (0 : Fin 1024) = Row.near fun j => d (ix2 n j) :=
      Row.IsNear.eq_near ⟨fun i => le_of_eq ((htop 0).trans (htop i).symm), fun i hi => absurd hi (Fin.not_lt_zero i)⟩
    rw [hp2, ← this]
    rfl
  · obtain ⟨k, rfl⟩ := (mem_fiber d n _).mp h
    have : k = Row.near fun j => d (ix2 n j) := by
      refine Row.IsNear.eq_near ⟨fun i => ?_, fun i hi => ?_⟩
      · rcases hrow i with h' | ⟨h', _⟩
        · exact le_of_lt h'
        · exact le_of_eq h'
      · rcases hrow i with h' | ⟨_, h'⟩
        · exact h'
        · simp only [Row.toInt_index] at h'
          have : i.val < k.val := hi
          omega
    rw [← this]

end Cert.ReferenceIdeal.Hand

end
-- ==== Proof.RefValue.lean ====
/- The reference's arrays at an index: each row's distances, probabilities, index and picked entry are
   those of the row's own mathematics, layer by layer. -/
module

public import proofs.«01_k».proof.Proof.RefArgmin
public import Idealize.ShloMosaic.Lib.Routing.Ops

@[expose] public section

set_option maxRecDepth 16384

noncomputable section

namespace Cert.ReferenceIdeal.Hand

open Idealize.ShloMosaic Cert.ReferenceIdeal
open Cert.ReferenceIdeal.Facts₀ Cert.ReferenceIdeal.Facts

variable [Facts]

/-- The distances at an index. -/
theorem dist_apply (r : FVec Ideal S16384x256 .f32) (w : FVec Ideal S1024x256 .f32) (n : Fin 16384) (j : Fin 1024) :
    dist r w (ix2 n j) = Row.dist (fun c => r (ix2 n c)) (fun j c => w (ix2 j c)) j := by
  pointwise [dist, Row.dist]
  rw [max_comm]

/-- The scores at an index. -/
theorem score_apply (d : FVec Ideal S16384x1024 .f32) (n : Fin 16384) (j : Fin 1024) :
    score d (ix2 n j) = Row.score (fun j => d (ix2 n j)) j := by
  pointwise [score, Row.score]
  done

/-- Each row's greatest score. -/
theorem rowMax_apply (x : FVec Ideal S16384x1024 .f32) (n : Fin 16384) :
    Host.reduce (FloatOps.maximumf (F := Ideal) (φ := .f32)) x (constant S_ .f32 0xFF800000#32)
      reducesTo_S16384x1024_S16384_d1 h_S_ (ix1 n) = Finset.univ.fold max (⊥ : EReal) fun j => x (ix2 n j) := by
  pointwise []
  rw [Row.negInf_eq]

/-- The exponentials of an array less a column's entries, at an index. -/
theorem expOf_apply (s : FVec Ideal S16384x1024 .f32) (M : FVec Ideal S16384 .f32) (n : Fin 16384) (j : Fin 1024) :
    Host.exp (subf s (broadcastInDim S16384x1024 ![0, 1] bcast_S16384x1_S16384x1024_0_1
      (broadcastInDim S16384x1 ![0] bcast_S16384_S16384x1_0
        (maximumf (broadcastInDim S16384 ![] bcast_S_S16384 (constant S_ .f32 0xFF800000#32)) M)))) (ix2 n j)
      = Ideal.exp (s (ix2 n j) - M (ix1 n)) := by
  pointwise []
  rw [Row.negInf_eq, max_eq_right bot_le]

/-- The exponentials at an index. -/
theorem expo_apply (d : FVec Ideal S16384x1024 .f32) (n : Fin 16384) (j : Fin 1024) :
    expo d (ix2 n j) = Ideal.exp (Row.score (fun j => d (ix2 n j)) j
      - Finset.univ.fold max (⊥ : EReal) (Row.score (fun j => d (ix2 n j)))) := by
  have h := expOf_apply (score d) (Host.reduce FloatOps.maximumf (score d) (constant S_ .f32 0xFF800000#32)
    reducesTo_S16384x1024_S16384_d1 h_S_) n j
  rw [rowMax_apply (score d) n, score_apply] at h
  have hs : (fun j => score d (ix2 n j)) = Row.score fun j => d (ix2 n j) := funext fun j => score_apply d n j
  rw [hs] at h
  rw [expo]
  exact h

/-- The probabilities at an index. -/
theorem probs_apply (d : FVec Ideal S16384x1024 .f32) (n : Fin 16384) (j : Fin 1024) :
    probs d (ix2 n j) = Row.probR (fun j => d (ix2 n j)) j := by
  pointwise [probs]
  simp only [expo_apply]
  rfl

/-- An index inside the table is unchanged by the wrap of negative indices. -/
theorem wrapped_apply (i : IVec S16384 32) (n : Fin 16384) (k : Fin 1024) (h : i (ix1 n) = BitVec.ofNat 32 k.val) (z : Fin 1) :
    wrapped i (ix2 n z) = BitVec.ofNat 32 k.val := by
  pointwise [wrapped, h]
  rw [show IntOp.cmpi .slt (BitVec.ofNat 32 k.val) 0#32 = 0#1 from ?_]
  · rfl
  · simp only [IntOp.cmpi, BitVec.slt, Row.toInt_index]
    rw [decide_eq_false (by simp)]
    rfl

/-- An index inside the table passes the bounds test. -/
theorem inside_apply (i : IVec S16384 32) (n : Fin 16384) (k : Fin 1024) (h : i (ix1 n) = BitVec.ofNat 32 k.val) :
    inside i (ix1 n) = 1#1 := by
  pointwise [inside, wrapped_apply i n k h]
  rw [show IntOp.cmpi .sge (BitVec.ofNat 32 k.val) 0#32 = 1#1 from ?_,
    show IntOp.cmpi .sle (BitVec.ofNat 32 k.val) 1023#32 = 1#1 from ?_]
  · simp [IntOp.andi]
  · have := k.isLt
    simp only [IntOp.cmpi, BitVec.sle, Row.toInt_index]
    rw [decide_eq_true (by simp; omega)]
    rfl
  · simp [IntOp.cmpi, BitVec.sle, Row.toInt_index]

/-- The book of a layer at an index. -/
theorem book_apply (w : FVec Ideal S4x1024x256 .f32) (j : Fin 1024) (c : Fin 256) :
    ∀ k, book w k (ix2 j c) = w (ix3 (Row.layer k) j c)
  | 0 => by pointwise [book]; rfl
  | 1 => by pointwise [book]; rfl
  | 2 => by pointwise [book]; rfl
  | _ + 3 => by pointwise [book]; rfl

/-- A table row named by an index inside the table. -/
theorem take_apply (w : FVec Ideal S1024x256 .f32) (i : IVec S16384 32) (n : Fin 16384) (k : Fin 1024) (c : Fin 256)
    (h : i (ix1 n) = BitVec.ofNat 32 k.val) : take w i (ix2 n c) = w (ix2 k c) := by
  have hg := Routing.gather_row gather_S1024x256_S16384x1_S16384x256_1_0_n_n_0_1_1256 rfl rfl rfl rfl rfl w (wrapped i)
    n c k (wrapped_apply i n k h 0) (by norm_num)
  have hin := inside_apply i n k h
  rw [take]
  generalize Host.gather gather_S1024x256_S16384x1_S16384x256_1_0_n_n_0_1_1256 w (wrapped i) = G at hg ⊢
  pointwise [hin]
  exact hg

/-- The entry picked for a row. -/
theorem pick_apply (r : FVec Ideal S16384x256 .f32) (w : FVec Ideal S1024x256 .f32) (n : Fin 16384) (c : Fin 256) :
    pick r w (ix2 n c)
      = w (ix2 (Row.near (Row.dist (fun c => r (ix2 n c)) (fun j c => w (ix2 j c)))) c) := by
  rw [pick, take_apply w _ n _ c (ids_apply _ n)]
  simp only [dist_apply]

/-- The four codebooks of the stack, by layer. -/
def books (w : FVec Ideal S4x1024x256 .f32) (k : ℕ) (j : Fin 1024) (c : Fin 256) : EReal := w (ix3 (Row.layer k) j c)

/-- A row's residual before each layer. -/
theorem resid_apply (z : FVec Ideal S16384x256 .f32) (w : FVec Ideal S4x1024x256 .f32) (n : Fin 16384) :
    ∀ (k : ℕ) (c : Fin 256), resid z w k (ix2 n c) = Row.resid (fun c => z (ix2 n c)) (books w) k c
  | 0, _ => rfl
  | k + 1, c => by
    have ih := resid_apply z w n k
    rw [resid, Row.resid, ← funext ih]
    pointwise [pick_apply, book_apply]
    rfl

/-- A row's distances at each layer. -/
theorem dists_apply (z : FVec Ideal S16384x256 .f32) (w : FVec Ideal S4x1024x256 .f32) (n : Fin 16384) (k : ℕ)
    (j : Fin 1024) : dists z w k (ix2 n j) = Row.dists (fun c => z (ix2 n c)) (books w) k j := by
  rw [dists, dist_apply, Row.dists]
  simp only [resid_apply, book_apply]
  rfl

/-- The sum of the entries picked for a row before each layer. -/
theorem total_apply (z : FVec Ideal S16384x256 .f32) (w : FVec Ideal S4x1024x256 .f32) (n : Fin 16384) :
    ∀ (k : ℕ) (c : Fin 256), total z w k (ix2 n c) = Row.total (fun c => z (ix2 n c)) (books w) k c
  | 0, c => by
    pointwise [total, zeros, Row.total]
    done
  | k + 1, c => by
    have ih := total_apply z w n k c
    rw [total, Row.total, Row.dists, ← funext (resid_apply z w n k)]
    pointwise [pick_apply, book_apply, ih]
    rfl

/-- The stacked probabilities at an index. -/
theorem allProbs_apply (z : FVec Ideal S16384x256 .f32) (w : FVec Ideal S4x1024x256 .f32) (l : Fin 4) (n : Fin 16384)
    (j : Fin 1024) :
    allProbs z w (ix3 l n j) = Row.probR (Row.dists (fun c => z (ix2 n c)) (books w) l.val) j := by
  have hp : ∀ k, probs (dists z w k) (ix2 n j) = Row.probR (Row.dists (fun c => z (ix2 n c)) (books w) k) j := fun k => by
    rw [probs_apply]
    simp only [dists_apply]
  pointwise [allProbs, hp]
  fin_vals l with hl <;> simp [hl]

/-- Four index arrays stacked, at an index. -/
theorem stack_apply (a : ℕ → IVec S16384 32) (l : Fin 4) (n : Fin 16384) :
    concatenate S4x16384 0
      [⟨S1x16384, broadcastInDim S1x16384 ![1] bcast_S16384_S1x16384_1 (a 0)⟩,
       ⟨S1x16384, broadcastInDim S1x16384 ![1] bcast_S16384_S1x16384_1 (a 1)⟩,
       ⟨S1x16384, broadcastInDim S1x16384 ![1] bcast_S16384_S1x16384_1 (a 2)⟩,
       ⟨S1x16384, broadcastInDim S1x16384 ![1] bcast_S16384_S1x16384_1 (a 3)⟩]
      concatenates_S1x16384_S1x16384_S1x16384_S1x16384_S4x16384_d0 (ix2 l n) = a l.val (ix1 n) := by
  pointwise []
  fin_vals l with hl <;> simp [hl]

/-- The stacked indices at an index. -/
theorem allIds_apply (z : FVec Ideal S16384x256 .f32) (w : FVec Ideal S4x1024x256 .f32) (l : Fin 4) (n : Fin 16384) :
    allIds z w (ix2 l n)
      = BitVec.ofNat 32 (Row.near (Row.dists (fun c => z (ix2 n c)) (books w) l.val)).val := by
  have hp : ∀ k, ids (dists z w k) (ix1 n)
      = BitVec.ofNat 32 (Row.near (Row.dists (fun c => z (ix2 n c)) (books w) k)).val := fun k => by
    rw [ids_apply]
    simp only [dists_apply]
  exact (stack_apply (fun k => ids (dists z w k)) l n).trans (hp l.val)

end Cert.ReferenceIdeal.Hand

end
-- ==== Proof.Equal.lean ====
/- The equation: over arrays of reals the kernel's three arrays are the reference's. -/
module

public import proofs.«01_k».proof.Proof.KernelRun
public import proofs.«01_k».proof.Proof.RefValue
public import proofs.«01_k».proof.Proof.RefRun

@[expose] public section

set_option maxRecDepth 16384

noncomputable section

namespace Cert.Equal

open Idealize.ShloMosaic

variable [Cert.ReferenceIdeal.Facts]

/-- The sums of picks agree. -/
theorem totals_eq (z : FVec Ideal Cert.KernelIdeal.S16384x256 .f32) (w : FVec Ideal Cert.KernelIdeal.S4x1024x256 .f32) :
    Cert.KernelIdeal.Hand.totals z w = Cert.ReferenceIdeal.Hand.total z w 4 := by
  funext i
  obtain ⟨n, c, rfl⟩ : ∃ n c, i = ix2 n c := ⟨i 0, i 1, by blk_ext⟩
  exact (Cert.ReferenceIdeal.Hand.total_apply z w n 4 c).symm

/-- The probabilities agree. -/
theorem probs_eq (z : FVec Ideal Cert.KernelIdeal.S16384x256 .f32) (w : FVec Ideal Cert.KernelIdeal.S4x1024x256 .f32)
    (hz : ∀ i, Row.IsReal (z i)) (hw : ∀ i, Row.IsReal (w i)) :
    Cert.KernelIdeal.Hand.allProbs z w = Cert.ReferenceIdeal.Hand.allProbs z w := by
  funext i
  obtain ⟨l, n, j, rfl⟩ : ∃ l n j, i = ix3 l n j := ⟨i 0, i 1, i 2, by blk_ext⟩
  refine Eq.trans ?_ (Cert.ReferenceIdeal.Hand.allProbs_apply z w l n j).symm
  exact Row.probK_eq_probR (Row.dists_isReal (fun _ => hz _) (fun _ _ _ => hw _) l.val) j

/-- The indices agree. -/
theorem ids_eq (z : FVec Ideal Cert.KernelIdeal.S16384x256 .f32) (w : FVec Ideal Cert.KernelIdeal.S4x1024x256 .f32) :
    Cert.KernelIdeal.Hand.allIds z w = Cert.ReferenceIdeal.Hand.allIds z w := by
  funext i
  obtain ⟨l, n, rfl⟩ : ∃ l n, i = ix2 l n := ⟨i 0, i 1, by blk_ext⟩
  exact (Cert.ReferenceIdeal.Hand.allIds_apply z w l n).symm

end Cert.Equal

end
-- ==== Proof.lean ====
/- The claims put together: the three programs' frames, the change of the bfloat16 words' reading, and the
   equation between the kernel's results and the reference's over finite arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.PreReal
public import proofs.«01_k».proof.Proof.Equal
public import Idealize.ShloMosaic.Adequacy
public import Idealize.ShloMosaic.Init

@[expose] public section

noncomputable section

namespace Cert.Proof

open Idealize.ShloMosaic Idealize.SL.Sem

/-- Over finite arguments the kernel's three results are the reference's. -/
theorem same_results : Cert.algebraic_KernelIdeal_ReferenceIdeal_pre_finite_arguments
    (hKernelIdeal := Cert.KernelIdeal.Gen.facts) (hReferenceIdeal := Cert.ReferenceIdeal.Gen.facts)
    (hPre_finite_arguments := Cert.Pre_finite_arguments.facts) := by
  letI := Cert.ReferenceIdeal.Gen.facts
  letI := Cert.Pre_finite_arguments.facts
  intro m g m' g' hpre hagree
  have hreal := fun c => Cert.Pre_finite_arguments.isReal (hpre c)
  refine ⟨
    fun c => Cert.KernelIdeal.Hand.totals
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.KernelIdeal.Hand.allProbs
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.KernelIdeal.Hand.allIds
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    θ_run_mono (Cert.KernelIdeal.Hand.run m g) fun r h c => ?_,
    θ_run_mono (Cert.ReferenceIdeal.Hand.run m' g') fun r h c => ?_⟩
  · obtain ⟨h0, h1, h2, h3, h4⟩ := h c
    exact ⟨h0.trans (Cert.KernelIdeal.Hand.end_total m g c (hreal c).2),
      h1.trans (Cert.KernelIdeal.Hand.end_probs m g c (hreal c).2),
      h2.trans (Cert.KernelIdeal.Hand.end_ids m g c (hreal c).2), h3, h4⟩
  · obtain ⟨h0, h1, h2, h3, h4⟩ := h.1 c
    rw [(hagree c).1, (hagree c).2] at h0 h1 h2
    exact ⟨h0.trans (Cert.Equal.totals_eq _ _).symm,
      h1.trans (Cert.Equal.probs_eq _ _ (hreal c).1 (hreal c).2).symm,
      h2.trans (Cert.Equal.ids_eq _ _).symm, h3, h4⟩

/-- All the claims together. -/
theorem claim : Cert.Claim :=
  ⟨Cert.Kernel.Gen.facts, Cert.KernelIdeal.Gen.facts, Cert.ReferenceIdeal.Gen.facts, Cert.Pre_finite_arguments.facts,
    fun m g _ => Cert.Kernel.Gen.frame m g,
    fun m g _ => Cert.KernelIdeal.Gen.frame m g,
    fun m g _ => Cert.KernelIdeal.Gen.frame m g,
    fun m g _ => θ_run_mono (Cert.ReferenceIdeal.Hand.run m g) fun _ h => ⟨fun c => (h.1 c).2.2.2, h.2⟩,
    fun m g _ => θ_run_mono (Cert.ReferenceIdeal.Hand.run m g) fun _ h => ⟨fun c => (h.1 c).2.2.2, h.2⟩,
    IdealRules.bf16_pack.statement Cert.KernelIdeal.S4x1024x256,
    same_results⟩

end Cert.Proof

end
